-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x96x224x224 : Shape := ⟨4, ![4, 96, 224, 224]⟩
abbrev S96x96x3 : Shape := ⟨3, ![96, 96, 3]⟩
abbrev S96 : Shape := ⟨1, ![96]⟩
abbrev S4x96x1x224 : Shape := ⟨4, ![4, 96, 1, 224]⟩
abbrev S4x96x8x224 : Shape := ⟨4, ![4, 96, 8, 224]⟩
abbrev S4x96x8x1 : Shape := ⟨4, ![4, 96, 8, 1]⟩
abbrev S4x96x8x8 : Shape := ⟨4, ![4, 96, 8, 8]⟩
abbrev S4x96x64 : Shape := ⟨3, ![4, 96, 64]⟩
abbrev S3x96x96 : Shape := ⟨3, ![3, 96, 96]⟩
abbrev S96x1 : Shape := ⟨2, ![96, 1]⟩
abbrev S4x96x50176 : Shape := ⟨3, ![4, 96, 50176]⟩
abbrev S1x96x64 : Shape := ⟨3, ![1, 96, 64]⟩
abbrev S1x96x12544 : Shape := ⟨3, ![1, 96, 12544]⟩
abbrev S96x64 : Shape := ⟨2, ![96, 64]⟩
abbrev S96x192 : Shape := ⟨2, ![96, 192]⟩
abbrev S64 : Shape := ⟨1, ![64]⟩
abbrev S1x64 : Shape := ⟨2, ![1, 64]⟩
abbrev S1x96x96 : Shape := ⟨3, ![1, 96, 96]⟩
abbrev S96x96 : Shape := ⟨2, ![96, 96]⟩
abbrev S96x12544 : Shape := ⟨2, ![96, 12544]⟩
abbrev S12544 : Shape := ⟨1, ![12544]⟩
abbrev S1x12544 : Shape := ⟨2, ![1, 12544]⟩
abbrev S64x12544 : Shape := ⟨2, ![64, 12544]⟩
abbrev S192x12544 : Shape := ⟨2, ![192, 12544]⟩

abbrev nBuf : Space → Nat
  | .hbm => 27
  | .vmem => 10
  | .smem => 0
  | _ => 0

abbrev bufTy : (tb : Table) → Fin (tcTables nBuf tb) → BufTy
  | .hbm, ⟨0, _⟩ => ⟨S4x96x224x224, .f32⟩
  | .hbm, ⟨1, _⟩ => ⟨S96x96x3, .f32⟩
  | .hbm, ⟨2, _⟩ => ⟨S96, .f32⟩
  | .hbm, ⟨3, _⟩ => ⟨S4x96x1x224, .f32⟩
  | .hbm, ⟨4, _⟩ => ⟨S4x96x1x224, .f32⟩
  | .hbm, ⟨5, _⟩ => ⟨S4x96x1x224, .f32⟩
  | .hbm, ⟨6, _⟩ => ⟨S4x96x1x224, .f32⟩
  | .hbm, ⟨7, _⟩ => ⟨S4x96x1x224, .f32⟩
  | .hbm, ⟨8, _⟩ => ⟨S4x96x1x224, .f32⟩
  | .hbm, ⟨9, _⟩ => ⟨S4x96x1x224, .f32⟩
  | .hbm, ⟨10, _⟩ => ⟨S4x96x1x224, .f32⟩
  | .hbm, ⟨11, _⟩ => ⟨S4x96x8x224, .f32⟩
  | .hbm, ⟨12, _⟩ => ⟨S4x96x8x1, .f32⟩
  | .hbm, ⟨13, _⟩ => ⟨S4x96x8x1, .f32⟩
  | .hbm, ⟨14, _⟩ => ⟨S4x96x8x1, .f32⟩
  | .hbm, ⟨15, _⟩ => ⟨S4x96x8x1, .f32⟩
  | .hbm, ⟨16, _⟩ => ⟨S4x96x8x1, .f32⟩
  | .hbm, ⟨17, _⟩ => ⟨S4x96x8x1, .f32⟩
  | .hbm, ⟨18, _⟩ => ⟨S4x96x8x1, .f32⟩
  | .hbm, ⟨19, _⟩ => ⟨S4x96x8x1, .f32⟩
  | .hbm, ⟨20, _⟩ => ⟨S4x96x8x8, .f32⟩
  | .hbm, ⟨21, _⟩ => ⟨S4x96x64, .f32⟩
  | .hbm, ⟨22, _⟩ => ⟨S3x96x96, .f32⟩
  | .hbm, ⟨23, _⟩ => ⟨S96x1, .f32⟩
  | .hbm, ⟨24, _⟩ => ⟨S4x96x50176, .f32⟩
  | .hbm, ⟨25, _⟩ => ⟨S4x96x50176, .f32⟩
  | .hbm, ⟨26, _⟩ => ⟨S4x96x224x224, .f32⟩
  | .local _ .vmem, ⟨0, _⟩ => ⟨S1x96x64, .f32⟩
  | .local _ .vmem, ⟨1, _⟩ => ⟨S1x96x64, .f32⟩
  | .local _ .vmem, ⟨2, _⟩ => ⟨S3x96x96, .f32⟩
  | .local _ .vmem, ⟨3, _⟩ => ⟨S96x1, .f32⟩
  | .local _ .vmem, ⟨4, _⟩ => ⟨S1x96x12544, .f32⟩
  | .local _ .vmem, ⟨5, _⟩ => ⟨S1x96x12544, .f32⟩
  | .local _ .vmem, ⟨6, _⟩ => ⟨S1x96x12544, .f32⟩
  | .local _ .vmem, ⟨7, _⟩ => ⟨S1x96x12544, .f32⟩
  | .local _ .vmem, ⟨8, _⟩ => ⟨S96x64, .f32⟩
  | .local _ .vmem, ⟨9, _⟩ => ⟨S96x192, .f32⟩
  | _, _ => ⟨S4x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x96x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S3x96x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S96x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x96x12544 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x96x12544 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S4x96x224x224 : Shape := ⟨4, ![4, 96, 224, 224]⟩
abbrev S96x96x3 : Shape := ⟨3, ![96, 96, 3]⟩
abbrev S96 : Shape := ⟨1, ![96]⟩
abbrev S_ : Shape := ⟨0, ![]⟩
abbrev S7 : Shape := ⟨1, ![7]⟩
abbrev S1 : Shape := ⟨1, ![1]⟩
abbrev S8 : Shape := ⟨1, ![8]⟩
abbrev S8x8 : Shape := ⟨2, ![8, 8]⟩
abbrev S8x8x1 : Shape := ⟨3, ![8, 8, 1]⟩
abbrev S8x8x2 : Shape := ⟨3, ![8, 8, 2]⟩
abbrev S4x96x8x8 : Shape := ⟨4, ![4, 96, 8, 8]⟩
abbrev S4x96x64 : Shape := ⟨3, ![4, 96, 64]⟩
abbrev S4x96x50176 : Shape := ⟨3, ![4, 96, 50176]⟩
abbrev S4x50176 : Shape := ⟨2, ![4, 50176]⟩
abbrev S4x1x50176 : Shape := ⟨3, ![4, 1, 50176]⟩
abbrev S4x64 : Shape := ⟨2, ![4, 64]⟩
abbrev S4x1x64 : Shape := ⟨3, ![4, 1, 64]⟩
abbrev S4x50176x64 : Shape := ⟨3, ![4, 50176, 64]⟩
abbrev S4x50176x3 : Shape := ⟨3, ![4, 50176, 3]⟩
abbrev S4x50176x3x1 : Shape := ⟨4, ![4, 50176, 3, 1]⟩
abbrev S4x96x50176x3 : Shape := ⟨4, ![4, 96, 50176, 3]⟩
abbrev S4x96x150528 : Shape := ⟨3, ![4, 96, 150528]⟩
abbrev S96x96x1 : Shape := ⟨3, ![96, 96, 1]⟩
abbrev S96x96 : Shape := ⟨2, ![96, 96]⟩
abbrev S4x50176x96 : Shape := ⟨3, ![4, 50176, 96]⟩
abbrev S1x96x1 : Shape := ⟨3, ![1, 96, 1]⟩

abbrev nBuf : Space → Nat
  | .hbm => 135
  | .vmem => 0
  | .smem => 0
  | _ => 0

abbrev hbmTy0_0 (i : Nat) : BufTy := match i % 128 with
  | 0 => ⟨S4x96x224x224, .f32⟩
  | 1 => ⟨S96x96x3, .f32⟩
  | 2 => ⟨S96, .f32⟩
  | 3 => ⟨S_, .i32⟩
  | 4 => ⟨S_, .i32⟩
  | 5 => ⟨S_, .f32⟩
  | 6 => ⟨S_, .f32⟩
  | 7 => ⟨S_, .f32⟩
  | 8 => ⟨S_, .f32⟩
  | 9 => ⟨S_, .f32⟩
  | 10 => ⟨S7, .f32⟩
  | 11 => ⟨S_, .f32⟩
  | 12 => ⟨S7, .f32⟩
  | 13 => ⟨S7, .f32⟩
  | 14 => ⟨S1, .f32⟩
  | 15 => ⟨S_, .f32⟩
  | 16 => ⟨S7, .f32⟩
  | 17 => ⟨S7, .f32⟩
  | 18 => ⟨S7, .f32⟩
  | 19 => ⟨S7, .f32⟩
  | 20 => ⟨S1, .f32⟩
  | 21 => ⟨S7, .f32⟩
  | 22 => ⟨S7, .f32⟩
  | 23 => ⟨S7, .f32⟩
  | 24 => ⟨S1, .f32⟩
  | 25 => ⟨S8, .f32⟩
  | 26 => ⟨S8, .f32⟩
  | 27 => ⟨S8, .i32⟩
  | 28 => ⟨S_, .i32⟩
  | 29 => ⟨S_, .i32⟩
  | 30 => ⟨S_, .f32⟩
  | 31 => ⟨S_, .f32⟩
  | 32 => ⟨S_, .f32⟩
  | 33 => ⟨S_, .f32⟩
  | 34 => ⟨S_, .f32⟩
  | 35 => ⟨S7, .f32⟩
  | 36 => ⟨S_, .f32⟩
  | 37 => ⟨S7, .f32⟩
  | 38 => ⟨S7, .f32⟩
  | 39 => ⟨S1, .f32⟩
  | 40 => ⟨S_, .f32⟩
  | 41 => ⟨S7, .f32⟩
  | 42 => ⟨S7, .f32⟩
  | 43 => ⟨S7, .f32⟩
  | 44 => ⟨S7, .f32⟩
  | 45 => ⟨S1, .f32⟩
  | 46 => ⟨S7, .f32⟩
  | 47 => ⟨S7, .f32⟩
  | 48 => ⟨S7, .f32⟩
  | 49 => ⟨S1, .f32⟩
  | 50 => ⟨S8, .f32⟩
  | 51 => ⟨S8, .f32⟩
  | 52 => ⟨S8, .i32⟩
  | 53 => ⟨S8x8, .i32⟩
  | 54 => ⟨S8x8, .i32⟩
  | 55 => ⟨S_, .i32⟩
  | 56 => ⟨S8x8, .i32⟩
  | 57 => ⟨S8x8, .i1⟩
  | 58 => ⟨S_, .i32⟩
  | 59 => ⟨S8x8, .i32⟩
  | 60 => ⟨S8x8, .i32⟩
  | 61 => ⟨S8x8, .i32⟩
  | 62 => ⟨S_, .i32⟩
  | 63 => ⟨S8x8, .i32⟩
  | 64 => ⟨S8x8, .i1⟩
  | 65 => ⟨S_, .i32⟩
  | 66 => ⟨S8x8, .i32⟩
  | 67 => ⟨S8x8, .i32⟩
  | 68 => ⟨S8x8, .i32⟩
  | 69 => ⟨S8x8x1, .i32⟩
  | 70 => ⟨S8x8x1, .i32⟩
  | 71 => ⟨S8x8x2, .i32⟩
  | 72 => ⟨S4x96x8x8, .f32⟩
  | 73 => ⟨S4x96x64, .f32⟩
  | 74 => ⟨S4x96x50176, .f32⟩
  | 75 => ⟨S4x96x50176, .f32⟩
  | 76 => ⟨S_, .f32⟩
  | 77 => ⟨S4x50176, .f32⟩
  | 78 => ⟨S4x1x50176, .f32⟩
  | 79 => ⟨S4x1x50176, .f32⟩
  | 80 => ⟨S_, .f32⟩
  | 81 => ⟨S4x1x50176, .f32⟩
  | 82 => ⟨S4x1x50176, .f32⟩
  | 83 => ⟨S4x96x50176, .f32⟩
  | 84 => ⟨S4x96x50176, .f32⟩
  | 85 => ⟨S4x96x64, .f32⟩
  | 86 => ⟨S_, .f32⟩
  | 87 => ⟨S4x64, .f32⟩
  | 88 => ⟨S4x1x64, .f32⟩
  | 89 => ⟨S4x1x64, .f32⟩
  | 90 => ⟨S_, .f32⟩
  | 91 => ⟨S4x1x64, .f32⟩
  | 92 => ⟨S4x1x64, .f32⟩
  | 93 => ⟨S4x96x64, .f32⟩
  | 94 => ⟨S4x96x64, .f32⟩
  | 95 => ⟨S4x50176x64, .f32⟩
  | 96 => ⟨S4x50176x3, .f32⟩
  | 97 => ⟨S4x50176x3, .i32⟩
  | 98 => ⟨S_, .i32⟩
  | 99 => ⟨S4x50176x3, .i32⟩
  | 100 => ⟨S4x50176x3, .i1⟩
  | 101 => ⟨S_, .i32⟩
  | 102 => ⟨S4x50176x3, .i32⟩
  | 103 => ⟨S4x50176x3, .i32⟩
  | 104 => ⟨S4x50176x3, .i32⟩
  | 105 => ⟨S4x50176x3x1, .i32⟩
  | 106 => ⟨S4x96x50176x3, .f32⟩
  | 107 => ⟨S4x96x150528, .f32⟩
  | 108 => ⟨S96x96x1, .f32⟩
  | 109 => ⟨S96x96, .f32⟩
  | 110 => ⟨S4x96x50176, .f32⟩
  | 111 => ⟨S4x50176x96, .f32⟩
  | 112 => ⟨S4x96x50176, .f32⟩
  | 113 => ⟨S_, .f32⟩
  | 114 => ⟨S4x96x50176, .f32⟩
  | 115 => ⟨S4x96x50176, .f32⟩
  | 116 => ⟨S96x96x1, .f32⟩
  | 117 => ⟨S96x96, .f32⟩
  | 118 => ⟨S4x96x50176, .f32⟩
  | 119 => ⟨S4x50176x96, .f32⟩
  | 120 => ⟨S4x96x50176, .f32⟩
  | 121 => ⟨S4x96x50176, .f32⟩
  | 122 => ⟨S96x96x1, .f32⟩
  | 123 => ⟨S96x96, .f32⟩
  | 124 => ⟨S4x96x50176, .f32⟩
  | 125 => ⟨S4x50176x96, .f32⟩
  | 126 => ⟨S4x96x50176, .f32⟩
  | 127 => ⟨S4x96x50176, .f32⟩
  | _ => ⟨S4x96x224x224, .f32⟩

abbrev hbmTy0_1 (i : Nat) : BufTy := match i % 128 with
  | 0 => ⟨S1x96x1, .f32⟩
  | 1 => ⟨S4x96x50176, .f32⟩
  | 2 => ⟨S4x96x50176, .f32⟩
  | 3 => ⟨S_, .f32⟩
  | 4 => ⟨S4x96x50176, .f32⟩
  | 5 => ⟨S4x96x50176, .f32⟩
  | 6 => ⟨S4x96x224x224, .f32⟩
  | _ => ⟨S4x96x224x224, .f32⟩

abbrev hbmTy (i : Nat) : BufTy := match i / 128 with
  | 0 => hbmTy0_0 i
  | 1 => hbmTy0_1 i
  | _ => ⟨S4x96x224x224, .f32⟩

abbrev bufTy : (tb : Table) → Fin (tcTables nBuf tb) → BufTy
  | .hbm, ⟨i, _⟩ => hbmTy i
  | _, _ => ⟨S4x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_cst : Ref sig .tc := ⟨.hbm, 8, rfl⟩
abbrev main_call0_v3 : Ref sig .tc := ⟨.hbm, 9, rfl⟩
abbrev main_call0_v4 : Ref sig .tc := ⟨.hbm, 10, rfl⟩
abbrev main_call0_cst_0 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_cst_1 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_v15 : Ref sig .tc := ⟨.hbm, 23, rfl⟩
abbrev main_call0_v16 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_c_1 : Ref sig .tc := ⟨.hbm, 28, rfl⟩
abbrev main_c_2 : Ref sig .tc := ⟨.hbm, 29, rfl⟩
abbrev main_call2_v0 : Ref sig .tc := ⟨.hbm, 30, rfl⟩
abbrev main_call2_v1 : Ref sig .tc := ⟨.hbm, 31, rfl⟩
abbrev main_call2_v2 : Ref sig .tc := ⟨.hbm, 32, rfl⟩
abbrev main_call2_cst : Ref sig .tc := ⟨.hbm, 33, rfl⟩
abbrev main_call2_v3 : Ref sig .tc := ⟨.hbm, 34, rfl⟩
abbrev main_call2_v4 : Ref sig .tc := ⟨.hbm, 35, rfl⟩
abbrev main_call2_cst_0 : Ref sig .tc := ⟨.hbm, 36, rfl⟩
abbrev main_call2_v5 : Ref sig .tc := ⟨.hbm, 37, rfl⟩
abbrev main_call2_v6 : Ref sig .tc := ⟨.hbm, 38, rfl⟩
abbrev main_call2_v7 : Ref sig .tc := ⟨.hbm, 39, rfl⟩
abbrev main_call2_cst_1 : Ref sig .tc := ⟨.hbm, 40, rfl⟩
abbrev main_call2_v8 : Ref sig .tc := ⟨.hbm, 41, rfl⟩
abbrev main_call2_v9 : Ref sig .tc := ⟨.hbm, 42, rfl⟩
abbrev main_call2_v10 : Ref sig .tc := ⟨.hbm, 43, rfl⟩
abbrev main_call2_v11 : Ref sig .tc := ⟨.hbm, 44, rfl⟩
abbrev main_call2_v12 : Ref sig .tc := ⟨.hbm, 45, rfl⟩
abbrev main_call2_v13 : Ref sig .tc := ⟨.hbm, 46, rfl⟩
abbrev main_call2_v14 : Ref sig .tc := ⟨.hbm, 47, rfl⟩
abbrev main_call2_v15 : Ref sig .tc := ⟨.hbm, 48, rfl⟩
abbrev main_call2_v16 : Ref sig .tc := ⟨.hbm, 49, rfl⟩
abbrev main_v3 : Ref sig .tc := ⟨.hbm, 50, rfl⟩
abbrev main_v4 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_c_3 : Ref sig .tc := ⟨.hbm, 55, rfl⟩
abbrev main_v8 : Ref sig .tc := ⟨.hbm, 56, rfl⟩
abbrev main_v9 : Ref sig .tc := ⟨.hbm, 57, rfl⟩
abbrev main_c_4 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_c_5 : Ref sig .tc := ⟨.hbm, 62, rfl⟩
abbrev main_v13 : Ref sig .tc := ⟨.hbm, 63, rfl⟩
abbrev main_v14 : Ref sig .tc := ⟨.hbm, 64, rfl⟩
abbrev main_c_6 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_cst : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_cst_7 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_cst_8 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_cst_9 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_values : Ref sig .tc := ⟨.hbm, 96, rfl⟩
abbrev main_indices : Ref sig .tc := ⟨.hbm, 97, rfl⟩
abbrev main_c_10 : Ref sig .tc := ⟨.hbm, 98, rfl⟩
abbrev main_v41 : Ref sig .tc := ⟨.hbm, 99, rfl⟩
abbrev main_v42 : Ref sig .tc := ⟨.hbm, 100, rfl⟩
abbrev main_c_11 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev main_v50 : Ref sig .tc := ⟨.hbm, 109, rfl⟩
abbrev main_v51 : Ref sig .tc := ⟨.hbm, 110, rfl⟩
abbrev main_v52 : Ref sig .tc := ⟨.hbm, 111, rfl⟩
abbrev main_v53 : Ref sig .tc := ⟨.hbm, 112, rfl⟩
abbrev main_cst_12 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_cst_13 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩

abbrev nD : Nat := 1
abbrev τ : Topo := Topo.v7x

variable {F : FTy → Type} [FloatOps F]
-- ==== Proof.Frames.lean ====
/- The three frame conjuncts of `Cert.Claim`: the kernel at the bit patterns, the kernel at the extended reals and the
   reference at the extended reals each run to the end, leave their arguments unchanged and every semaphore counter at zero. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

namespace Cert.Proof

open Idealize.ShloMosaic Idealize.SL.Sem

/-- The kernel, at the bit patterns, runs to the end with its arguments unchanged and its counters at zero. -/
theorem frame_kernel : Cert.quiescent_Kernel (hKernel := Cert.Kernel.Gen.facts) :=
  fun m ρ _ => Cert.Kernel.Gen.frame m ρ

/-- The kernel, at the extended reals, runs to the end with its arguments unchanged and its counters at zero. -/
theorem frame_kernelIdeal : Cert.quiescent_KernelIdeal (hKernelIdeal := Cert.KernelIdeal.Gen.facts) :=
  fun m ρ _ => Cert.KernelIdeal.Gen.frame m ρ

/-- The reference runs to the end with its arguments unchanged; it declares no semaphore. -/
theorem frame_referenceIdeal : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩)
    (Cert.ReferenceIdeal.Value.run (F := Ideal) m ρ)

end Cert.Proof

end
-- ==== Proof.Pick.lean ====
/- The three best of 64 scores, as mathematics: the first position of the maximum, taken three times, each time with the
   positions already taken put at `⊥`; and that a stable sort by decreasing score begins with the same three positions. -/
module

public import Idealize.ShloMosaic.Lib.SortPrefix
public import Mathlib.Data.EReal.Basic

@[expose] public section

namespace Cert.Proof

open Idealize.ShloMosaic

/-- `p` is the first position at which `f` takes its largest value. -/
def IsFirstMax (f : Fin 64 → EReal) (p : Fin 64) : Prop := (∀ j, f j ≤ f p) ∧ ∀ j, j < p → f j < f p

/-- There is such a position. -/
theorem exists_isFirstMax (f : Fin 64 → EReal) : ∃ p, IsFirstMax f p := by
  classical
  obtain ⟨q, -, hq⟩ := Finset.exists_max_image (Finset.univ : Finset (Fin 64)) f ⟨0, Finset.mem_univ _⟩
  let T : Finset (Fin 64) := Finset.univ.filter fun p => ∀ j, f j ≤ f p
  have hT : T.Nonempty := ⟨q, Finset.mem_filter.mpr ⟨Finset.mem_univ _, fun j => hq j (Finset.mem_univ _)⟩⟩
  have hp := (Finset.mem_filter.mp (Finset.min'_mem T hT)).2
  refine ⟨T.min' hT, hp, fun j hj => lt_of_le_of_ne (hp j) fun e => ?_⟩
  have hjT : j ∈ T := Finset.mem_filter.mpr ⟨Finset.mem_univ _, fun k => e ▸ hp k⟩
  exact absurd (Finset.min'_le T j hjT) (not_le.mpr hj)

/-- There is one only. -/
theorem IsFirstMax.unique {f : Fin 64 → EReal} {p q : Fin 64} (hp : IsFirstMax f p) (hq : IsFirstMax f q) : p = q := by
  rcases lt_trichotomy p q with h | h | h
  · exact absurd (hp.1 q) (not_le.mpr (hq.2 p h))
  · exact h
  · exact absurd (hq.1 p) (not_le.mpr (hp.2 q h))

/-- The first position of the largest value. -/
noncomputable def firstMax (f : Fin 64 → EReal) : Fin 64 := (exists_isFirstMax f).choose

/-- It is one. -/
theorem firstMax_spec (f : Fin 64 → EReal) : IsFirstMax f (firstMax f) := (exists_isFirstMax f).choose_spec

/-- The scores with position `p` put at `⊥`. -/
noncomputable def mask (f : Fin 64 → EReal) (p : Fin 64) : Fin 64 → EReal := fun j => if j = p then ⊥ else f j

/-- The position of the best score. -/
noncomputable def pick0 (f : Fin 64 → EReal) : Fin 64 := firstMax f
/-- The position of the second best score. -/
noncomputable def pick1 (f : Fin 64 → EReal) : Fin 64 := firstMax (mask f (pick0 f))
/-- The position of the third best score. -/
noncomputable def pick2 (f : Fin 64 → EReal) : Fin 64 := firstMax (mask (mask f (pick0 f)) (pick1 f))
/-- The three positions, best first. -/
noncomputable def pick (f : Fin 64 → EReal) : Fin 3 → Fin 64 := ![pick0 f, pick1 f, pick2 f]

/-- The first maximum of scores one of which is above `⊥` is at such a one. -/
theorem bot_lt_firstMax (g : Fin 64 → EReal) (j : Fin 64) (hj : ⊥ < g j) : ⊥ < g (firstMax g) :=
  lt_of_lt_of_le hj ((firstMax_spec g).1 j)

section Order
variable (f : Fin 64 → EReal) (hf : ∀ j, ⊥ < f j)
include hf

/-- Masking one position leaves a score above `⊥`, so the next pick is another position. -/
theorem pick1_ne : pick1 f ≠ pick0 f := by
  intro h
  obtain ⟨j, hj⟩ : ∃ j : Fin 64, j ≠ pick0 f := exists_ne _
  have hb : ⊥ < mask f (pick0 f) j := by simp only [mask, if_neg hj]; exact hf j
  have := bot_lt_firstMax _ j hb
  rw [show firstMax (mask f (pick0 f)) = pick0 f from h] at this
  simp [mask] at this

/-- The second pick's masked score is its own. -/
theorem mask_pick1 : mask f (pick0 f) (pick1 f) = f (pick1 f) := if_neg (pick1_ne f hf)

/-- The third pick is neither of the first two. -/
theorem pick2_ne : pick2 f ≠ pick0 f ∧ pick2 f ≠ pick1 f := by
  have key : ⊥ < mask (mask f (pick0 f)) (pick1 f) (pick2 f) := by
    obtain ⟨j, hj0, hj1⟩ : ∃ j : Fin 64, j ≠ pick0 f ∧ j ≠ pick1 f := by
      have : ∀ a b : Fin 64, ∃ j : Fin 64, j ≠ a ∧ j ≠ b := by
        intro a b
        by_cases h0 : (0 : Fin 64) ≠ a ∧ (0 : Fin 64) ≠ b
        · exact ⟨0, h0⟩
        by_cases h1 : (1 : Fin 64) ≠ a ∧ (1 : Fin 64) ≠ b
        · exact ⟨1, h1⟩
        exact ⟨2, by constructor <;> omega⟩
      exact this _ _
    refine bot_lt_firstMax _ j ?_
    simp only [mask, if_neg hj0, if_neg hj1]
    exact hf j
  constructor
  · intro h; rw [h] at key; simp [mask] at key
  · intro h; rw [h] at key; simp [mask] at key

/-- The third pick's masked score is its own. -/
theorem mask_pick2 : mask (mask f (pick0 f)) (pick1 f) (pick2 f) = f (pick2 f) := by
  simp only [mask, if_neg (pick2_ne f hf).1, if_neg (pick2_ne f hf).2]

/-- The three picks are three positions. -/
theorem pick_injective : Function.Injective (pick f) := by
  intro a b h
  have h1 := pick1_ne f hf
  have h2 := pick2_ne f hf
  fin_cases a <;> fin_cases b <;> simp only [pick] at h <;> first
    | rfl
    | exact absurd h h1
    | exact absurd h h1.symm
    | exact absurd h h2.1
    | exact absurd h h2.1.symm
    | exact absurd h h2.2
    | exact absurd h h2.2.symm

end Order

/-- Position `k` comes before position `k'`: a larger score, or the same score at an earlier position. -/
noncomputable def ranksBefore (f : Fin 64 → EReal) (k k' : Fin 64) : Bool :=
  decide (f k' < f k) || (decide (f k = f k') && decide (k < k'))

/-- That order is strict and total. -/
theorem ranksBefore_total (f : Fin 64 → EReal) : StrictTotalBefore (ranksBefore f) :=
  StrictTotalBefore.of_key_then_position (fun a b : EReal => decide (b < a)) f (fun a => by simp)
    (fun a b c hab hbc => by simp only [decide_eq_true_eq] at *; exact hbc.trans hab)
    (fun a b => by
      simp only [decide_eq_true_eq]
      rcases lt_trichotomy a b with h | h | h
      · exact Or.inr (Or.inr h)
      · exact Or.inr (Or.inl h)
      · exact Or.inl h)

/-- A first maximum is not ranked after any position. -/
theorem ranksBefore_firstMax {f : Fin 64 → EReal} {p : Fin 64} (hp : IsFirstMax f p) (q : Fin 64) :
    ranksBefore f q p = false := by
  have h1 : ¬ f p < f q := not_lt.mpr (hp.1 q)
  have h2 : ¬ (f q = f p ∧ q < p) := fun ⟨e, h⟩ => absurd e (ne_of_lt (hp.2 q h))
  simp only [ranksBefore, Bool.or_eq_false_iff, decide_eq_false_iff_not, Bool.and_eq_false_iff]
  refine ⟨h1, ?_⟩
  by_cases e : f q = f p
  · exact Or.inr fun h => h2 ⟨e, h⟩
  · exact Or.inl e

/-- A first maximum of the scores `g` is not ranked, by `f`, after a position where both agree with `g`. -/
theorem ranksBefore_of_agree {f g : Fin 64 → EReal} {p : Fin 64} (hp : IsFirstMax g p) (e : g p = f p) (q : Fin 64)
    (eq : g q = f q) : ranksBefore f q p = false := by
  have h := ranksBefore_firstMax hp q
  simp only [ranksBefore, e, eq] at h ⊢
  exact h

/-- Sorting by a relation on a list whose order it breaks ties by is sorting by the relation with the ties broken. -/
theorem stableSort_eq_of_ordered {ι : Type} (R R' : ι → ι → Bool) (l : List ι)
    (h : l.Pairwise fun a b => R b a = R' b a) : stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- Two relations that leave the positions in the same order have the same sources. -/
theorem sortedFrom_eq_of_positions {n : Nat} (R R' : Fin n → Fin n → Bool) (hs : sortPositions n R = sortPositions n R') :
    sortedFrom R = sortedFrom R' := by
  funext k
  unfold sortedFrom
  rw [List.get_of_eq hs]
  rfl

/-- The stable sort by decreasing score alone is the sort by score and then position. -/
theorem sortedFrom_score (f : Fin 64 → EReal) (R : Fin 64 → Fin 64 → Bool) (hR : ∀ k k', R k k' = decide (f k' < f k)) :
    sortedFrom R = sortedFrom (ranksBefore f) := by
  have hs : sortPositions 64 R = sortPositions 64 (ranksBefore f) := by
    refine stableSort_eq_of_ordered R (ranksBefore f) (List.finRange 64) ?_
    refine (List.pairwise_lt_finRange 64).imp fun {a b} hab => ?_
    have : ¬ b < a := not_lt.mpr hab.le
    simp [hR, ranksBefore, this]
  exact sortedFrom_eq_of_positions R (ranksBefore f) hs

/-- THE STABLE SORT BY DECREASING SCORE BEGINS WITH THE THREE PICKS, if every score is above `⊥`. -/
theorem sortedFrom_eq_pick (f : Fin 64 → EReal) (hf : ∀ j, ⊥ < f j) (R : Fin 64 → Fin 64 → Bool)
    (hR : ∀ k k', R k k' = decide (f k' < f k)) (i : Fin 3) :
    sortedFrom R (i.castLE (by decide)) = pick f i := by
  rw [sortedFrom_score f R hR]
  have s0 := firstMax_spec f
  have s1 := firstMax_spec (mask f (pick0 f))
  have s2 := firstMax_spec (mask (mask f (pick0 f)) (pick1 f))
  have d1 := pick1_ne f hf
  have d2 := pick2_ne f hf
  -- each pick against any position not picked before it
  have h0 : ∀ q, ranksBefore f q (pick0 f) = false := ranksBefore_firstMax s0
  have h1 : ∀ q, q ≠ pick0 f → ranksBefore f q (pick1 f) = false := fun q hq =>
    ranksBefore_of_agree s1 (mask_pick1 f hf) q (if_neg hq)
  have h2 : ∀ q, q ≠ pick0 f → q ≠ pick1 f → ranksBefore f q (pick2 f) = false := fun q hq0 hq1 =>
    ranksBefore_of_agree s2 (mask_pick2 f hf) q (by simp only [mask, if_neg hq0, if_neg hq1])
  refine (ranksBefore_total f).sortedFrom_eq_of_prefix (by decide) (pick f) (pick_injective f hf) ?_ ?_ i
  · intro i j hij
    fin_cases i <;> fin_cases j <;> first
      | exact absurd hij (by decide)
      | exact h0 _
      | exact h1 _ d2.1
  · intro i p hp
    have p0 : p ≠ pick0 f := fun e => hp 0 e.symm
    have p1 : p ≠ pick1 f := fun e => hp 1 e.symm
    fin_cases i
    · exact h0 p
    · exact h1 p p0
    · exact h2 p p0 p1

end Cert.Proof

end
-- ==== Proof.Spec.lean ====
/- What both programs compute, as mathematics at the extended reals: vectors scaled by their length, the scores of 64 sampled
   vectors against one, and the weighted sum over the three best-scoring samples. With the facts about them both sides need. -/
module

public import proofs.«01_k».proof.Proof.Pick
public import Idealize.ShloMosaic.PureOps.Ideal.Laws

@[expose] public section

noncomputable section

namespace Cert.Proof

open Idealize.ShloMosaic
open scoped BigOperators

/-- The least length a vector is divided by: the number `9.99999996E-13` both programs spell by its bits. -/
def eps : EReal := Ideal.ofBits .f32 0x2B8CBCCC#32

/-- A vector's length, at least `eps`. -/
def len (v : Fin 96 → EReal) : EReal := max (Ideal.sqrt (∑ c, v c * v c)) eps

/-- A vector divided by its length. -/
def unit (v : Fin 96 → EReal) (c : Fin 96) : EReal := Ideal.div (v c) (len v)

/-- The score of sample `m` against the vector `q`. -/
def score (s : Fin 64 → Fin 96 → EReal) (q : Fin 96 → EReal) (m : Fin 64) : EReal := ∑ c, unit (s m) c * unit q c

/-- One output: the three best samples, each through its own weights, plus the bias, not below zero. -/
def best3 (W : Fin 3 → Fin 96 → EReal) (b : EReal) (s : Fin 64 → Fin 96 → EReal) (q : Fin 96 → EReal) : EReal :=
  max ((∑ k : Fin 3, ∑ i, W k i * s (pick (score s q) k) i) + b) 0

/-- The eight sampled rows of 224, and the eight sampled columns. -/
def rowOf : Fin 8 → Fin 224 := ![0, 32, 64, 96, 127, 159, 191, 223]

/-- Sample `j` of 64 lies on sampled row `j / 8` … -/
def hi (j : Fin 64) : Fin 8 := ⟨j.val / 8, by have := j.isLt; omega⟩

/-- … and sampled column `j % 8`. -/
def lo (j : Fin 64) : Fin 8 := ⟨j.val % 8, by have := j.isLt; omega⟩

/-- WHAT BOTH PROGRAMS RETURN at batch `b`, output channel `o`, row `y`, column `x`, from the images `X`, the weights `W` and the
    bias `B`: the samples are the image's vectors at the sampled rows and columns. -/
def answer (X : Fin 4 → Fin 96 → Fin 224 → Fin 224 → EReal) (W : Fin 96 → Fin 96 → Fin 3 → EReal) (B : Fin 96 → EReal)
    (b : Fin 4) (o : Fin 96) (y x : Fin 224) : EReal :=
  best3 (fun k i => W o i k) (B o) (fun j a => X b a (rowOf (hi j)) (rowOf (lo j))) (fun a => X b a y x)

/-- The least length is a positive real number. -/
theorem eps_pos : ∃ r : ℝ, eps = (r : EReal) ∧ 0 < r := by
  refine ⟨eps.toReal, ?_, ?_⟩ <;>
  · unfold eps
    simp [Ideal.ofBits, Ideal.ieee, -EReal.coe_mul]

/-- The bits `0x40400000` are three. -/
theorem ofBits_three : Ideal.ofBits .f32 0x40400000#32 = ((3 : ℝ) : EReal) := by
  simp [Ideal.ofBits, Ideal.ieee, -EReal.coe_mul]; norm_num

/-- The bits `0xFF800000` are `⊥`. -/
theorem ofBits_neg_inf : Ideal.ofBits .f32 0xFF800000#32 = (⊥ : EReal) := by
  simp [Ideal.ofBits, Ideal.ieee]

/-- A square is not negative. -/
theorem sq_nonneg' (x : EReal) : 0 ≤ x * x := by
  induction x using EReal.rec with
  | bot => simp
  | coe r => rw [← EReal.coe_mul]; exact_mod_cast mul_self_nonneg r
  | top => simp

/-- A vector divided by its length has finite entries: an infinite entry makes the length infinite. -/
theorem unit_finite (v : Fin 96 → EReal) (c : Fin 96) : ∃ r : ℝ, unit v c = (r : EReal) := by
  obtain ⟨e, he, hpos⟩ := eps_pos
  have hle : (e : EReal) ≤ len v := he ▸ le_max_right _ _
  unfold unit
  generalize hL : len v = L at hle
  induction L using EReal.rec with
  | bot => exact absurd hle (by simp)
  | top => exact ⟨0, by simp [Ideal.div]⟩
  | coe r =>
    have hr : r ≠ 0 := fun h => by
      rw [h] at hle
      exact absurd (EReal.coe_le_coe_iff.mp hle) (not_le.mpr hpos)
    rw [Ideal.div_coe hr]
    have hs : Ideal.sqrt (∑ c, v c * v c) ≤ (r : EReal) := hL ▸ le_max_left _ _
    have hcs : v c * v c ≤ ∑ c, v c * v c :=
      Finset.single_le_sum (f := fun c => v c * v c) (fun i _ => sq_nonneg' (v i)) (Finset.mem_univ c)
    have hsum : (∑ c, v c * v c) ≠ ⊤ := fun h => by
      rw [h] at hs; simp at hs
    have hc : v c * v c ≠ ⊤ := fun h => hsum (top_le_iff.mp (h ▸ hcs))
    generalize v c = x at hc
    induction x using EReal.rec with
    | bot => simp at hc
    | top => simp at hc
    | coe y => exact ⟨y * (1 / r), by rw [EReal.coe_mul]⟩

/-- Every score is finite. -/
theorem score_finite (s : Fin 64 → Fin 96 → EReal) (q : Fin 96 → EReal) (m : Fin 64) : ∃ r : ℝ, score s q m = (r : EReal) := by
  choose a ha using fun c => unit_finite (s m) c
  choose b hb using fun c => unit_finite q c
  refine ⟨∑ c, a c * b c, ?_⟩
  unfold score
  simp only [ha, hb, ← EReal.coe_mul]
  exact (map_sum (⟨⟨(fun x : ℝ => (x : EReal)), EReal.coe_zero⟩, EReal.coe_add⟩ : ℝ →+ EReal) (fun c => a c * b c) Finset.univ).symm

/-- Every score is above `⊥`. -/
theorem bot_lt_score (s : Fin 64 → Fin 96 → EReal) (q : Fin 96 → EReal) (m : Fin 64) : ⊥ < score s q m := by
  obtain ⟨r, hr⟩ := score_finite s q m
  rw [hr]; exact EReal.bot_lt_coe r

/-- A third of a number, three times, is the number. -/
theorem three_thirds (b : EReal) :
    Ideal.div b ((3 : ℝ) : EReal) + Ideal.div b ((3 : ℝ) : EReal) + Ideal.div b ((3 : ℝ) : EReal) = b := by
  rw [Ideal.div_coe (by norm_num)]
  have hp : (0 : ℝ) < 1 / 3 := by norm_num
  induction b using EReal.rec with
  | bot => rw [EReal.bot_mul_coe_of_pos hp]; rfl
  | top => rw [EReal.top_mul_coe_of_pos hp]; rfl
  | coe r => rw [← EReal.coe_mul, ← EReal.coe_add, ← EReal.coe_add]; congr 1; ring

/-- The three samples' sums, each with a third of the bias, are the sum of the three plus the bias. -/
theorem sum_thirds (T : Fin 3 → EReal) (b : EReal) :
    ∑ k : Fin 3, (T k + Ideal.div b ((3 : ℝ) : EReal)) = (∑ k : Fin 3, T k) + b := by
  rw [Finset.sum_add_distrib]
  congr 1
  rw [Fin.sum_univ_three, three_thirds]

/-- A sum against a row with one at `p` and zero elsewhere is the term at `p`. -/
theorem sum_onehot (g : Fin 64 → EReal) (p : Fin 64) : ∑ m, g m * (if m = p then (1 : EReal) else 0) = g p := by
  rw [Finset.sum_eq_single p]
  · simp
  · intro m _ hm; simp [hm]
  · intro h; exact absurd (Finset.mem_univ p) h

end Cert.Proof

end

end
-- ==== Proof.Columns.lean ====
/- Matrices read by columns: what the vector operations of the kernel leave at row `m`, column `j` — the sum of squares down a
   column, a row stretched over all rows, the first position of a column's maximum, and a contraction of two matrices. -/
module

public import proofs.«01_k».proof.Proof.Spec
public import Idealize.ShloMosaic.Lib.ValueIdx
public import Idealize.ShloMosaic.Lib.Pipeline.Value

@[expose] public section

noncomputable section

namespace Cert.Proof

open Idealize.ShloMosaic Idealize.ShloMosaic.ValueIdx
open scoped BigOperators

/-- The shape of `a` rows by `n` columns. -/
abbrev Mat (a n : Nat) : Shape := ⟨2, ![a, n]⟩
/-- The shape of a list of `n`. -/
abbrev Row (n : Nat) : Shape := ⟨1, ![n]⟩

/-- Column `j` of a matrix. -/
def col {a n : Nat} {α : Type} (x : (Mat a n).Idx → α) (j : Fin n) : Fin a → α := fun m => x (ix2 m j)

/-- Column `j` at row `m`. -/
theorem col_apply {a n : Nat} {α : Type} (x : (Mat a n).Idx → α) (j : Fin n) (m : Fin a) : col x j m = x (ix2 m j) := rfl

/-- Inserting row `k` above column `j` is the entry `(k, j)`. -/
theorem lift_col {a n : Nat} (h : (Mat a n).Reduces [0] (Row n)) (j : Fin n) (k : Fin a) :
    h.lift (ix1 j) k = (ix2 k j : (Mat a n).Idx) := by
  funext c
  match c with
  | ⟨0, _⟩ => exact Fin.ext rfl
  | ⟨1, _⟩ => exact Fin.ext rfl

/-- The sum down column `j`. -/
theorem sum_col {a n : Nat} (x : FVec Ideal (Mat a n) .f32) (acc : BitVec (FTy.bits .f32)) (h : (Mat a n).Reduces [0] (Row n))
    (hφ : FKind.Formats .f32) (hacc : acc = FKind.add.neutral .f32 hφ) (j : Fin n) :
    multiReduction .add [0] (Row n) x acc h hφ hacc (ix1 j) = ∑ k : Fin a, x (ix2 k j) := by
  rw [Ideal.multiReduction_add_single]
  exact Finset.sum_congr rfl fun k _ => congrArg x (lift_col h j k)

/-- A list written as one row. -/
theorem asRow {n : Nat} {α : Type} (v : (Row n).Idx → α) (h : (Row n).ShapeCasts (Mat 1 n)) (z : Fin 1) (j : Fin n) :
    shapeCast (Mat 1 n) v h (ix2 z j) = v (ix1 j) := by
  refine (shapeCast_addUnit_apply ![n] v h (ix2 z j)).trans (congrArg v ?_)
  funext b
  match b with
  | ⟨0, _⟩ => rfl

/-- One row stretched over `a` rows. -/
theorem stretch {a n : Nat} {α : Type} (v : (Mat 1 n).Idx → α) (h : (Mat 1 n).Broadcasts (Mat a n)) (m : Fin a) (j : Fin n) :
    broadcastTo (Mat a n) v h (ix2 m j) = v (ix2 0 j) := by
  refine broadcastTo_apply v h _ _ fun b => ?_
  match b with
  | ⟨0, _⟩ => rfl
  | ⟨1, _⟩ =>
    show j.val = if n = 1 then 0 else j.val
    split
    · have := j.isLt; omega
    · rfl

/-- A running maximum from `⊥` is the value at the first maximum. -/
theorem fold_max_eq (g : Fin 64 → EReal) : (Finset.univ : Finset (Fin 64)).fold max ⊥ g = g (firstMax g) := by
  apply le_antisymm
  · rw [Finset.fold_max_le]
    exact ⟨bot_le, fun k _ => (firstMax_spec g).1 k⟩
  · rw [Finset.le_fold_max]
    exact Or.inr ⟨_, Finset.mem_univ _, le_refl _⟩

/-- The maximum down column `j` is the value at its first maximum. -/
theorem max_col {n : Nat} (x : FVec Ideal (Mat 64 n) .f32) (h : (Mat 64 n).Reduces [0] (Row n))
    (hφ : FKind.Formats .f32) (hacc : (0xFF800000#32 : BitVec (FTy.bits .f32)) = FKind.maximumf.neutral .f32 hφ) (j : Fin n) :
    multiReduction .maximumf [0] (Row n) x 0xFF800000#32 h hφ hacc (ix1 j) = col x j (firstMax (col x j)) := by
  rw [Ideal.multiReduction_maximumf_single]
  have hg : (x ∘ h.lift (ix1 j)) = col x j := funext fun k => congrArg x (lift_col h j k)
  have hb : (FloatOps.ofBits .f32 0xFF800000#32 : Ideal .f32) = (⊥ : EReal) := ofBits_neg_inf
  rw [hb]
  exact (congrArg (fun g : Fin 64 → EReal => Finset.fold max (⊥ : EReal) g Finset.univ) hg).trans (fold_max_eq (col x j))

/-- The smaller of two words is below both, and is one of them. -/
theorem minsi_toInt (x y : BitVec 32) : (IntOp.minsi x y).toInt = min x.toInt y.toInt := by
  unfold IntOp.minsi
  rw [BitVec.slt_eq_decide]
  by_cases h : x.toInt < y.toInt
  · simp [h, min_eq_left h.le]
  · simp [h, min_eq_right (not_lt.mp h)]

/-- A running minimum of words that reaches `w` and stays above it is `w`. -/
theorem fold_minsi (g : Fin 64 → BitVec 32) (acc w : BitVec 32) (hacc : w.toInt ≤ acc.toInt)
    (hle : ∀ k, w.toInt ≤ (g k).toInt) (p : Fin 64) (hp : g p = w) :
    (Finset.univ : Finset (Fin 64)).fold (IKind.op .minsi) acc g = w := by
  classical
  have key : ∀ S : Finset (Fin 64), w.toInt ≤ (S.fold (IKind.op .minsi) acc g).toInt
      ∧ (p ∈ S → (S.fold (IKind.op .minsi) acc g).toInt ≤ w.toInt) := by
    intro S
    induction S using Finset.induction with
    | empty => exact ⟨hacc, fun h => absurd h (Finset.notMem_empty _)⟩
    | insert a S ha ih =>
      rw [Finset.fold_insert ha]
      have e : (IKind.op .minsi (g a) (S.fold (IKind.op .minsi) acc g)).toInt
          = min (g a).toInt (S.fold (IKind.op .minsi) acc g).toInt := minsi_toInt _ _
      rw [e]
      refine ⟨le_min (hle a) ih.1, fun h => ?_⟩
      rcases Finset.mem_insert.mp h with rfl | h
      · rw [hp]; exact min_le_left _ _
      · exact (min_le_right _ _).trans (ih.2 h)
  exact BitVec.eq_of_toInt_eq (le_antisymm ((key _).2 (Finset.mem_univ p)) (key _).1)

/-- A word below 65 read signed is itself. -/
theorem toInt_small (k : Nat) (h : k ≤ 64) : (BitVec.ofNat 32 k).toInt = (k : Int) := by
  rw [BitVec.toInt_eq_toNat_of_lt (by rw [BitVec.toNat_ofNat]; omega), BitVec.toNat_ofNat]
  congr 1; omega

/-- The rows whose entry equals the column's maximum keep their number, the others become 64; the smallest is the first
    maximum. -/
def firstRow {n : Nat} (x : FVec Ideal (Mat 64 n) .f32) (hr : (Mat 64 n).Reduces [0] (Row n)) (hs : (Row n).ShapeCasts (Mat 1 n))
    (hb : (Mat 1 n).Broadcasts (Mat 64 n)) (hi : (Mat 64 n).Iotas .tc 32 [0]) (hφ : FKind.Formats .f32)
    (hacc : (0xFF800000#32 : BitVec (FTy.bits .f32)) = FKind.maximumf.neutral .f32 hφ)
    (hmin : (2147483647#32 : BitVec 32) = IKind.neutral .minsi) : IVec (Mat 64 n) 32 :=
  broadcastTo (Mat 64 n) (shapeCast (Mat 1 n) (multiReductionI .minsi [0] (Row n)
    (select (cmpf .oeq x (broadcastTo (Mat 64 n) (shapeCast (Mat 1 n)
        (multiReduction .maximumf [0] (Row n) x 0xFF800000#32 hr hφ hacc) hs) hb))
      (iota .tc (Mat 64 n) 32 [0] hi) (broadcast (Mat 64 n) 64#32)) 2147483647#32 hr hmin) hs) hb

/-- Every row of `firstRow` holds, in column `j`, the number of the first maximum of column `j`. -/
theorem firstRow_apply {n : Nat} (x : FVec Ideal (Mat 64 n) .f32) (hr : (Mat 64 n).Reduces [0] (Row n))
    (hs : (Row n).ShapeCasts (Mat 1 n)) (hb : (Mat 1 n).Broadcasts (Mat 64 n)) (hi : (Mat 64 n).Iotas .tc 32 [0]) (hφ : FKind.Formats .f32)
    (hacc : (0xFF800000#32 : BitVec (FTy.bits .f32)) = FKind.maximumf.neutral .f32 hφ)
    (hmin : (2147483647#32 : BitVec 32) = IKind.neutral .minsi) (m : Fin 64)
    (j : Fin n) : firstRow x hr hs hb hi hφ hacc hmin (ix2 m j) = BitVec.ofNat 32 (firstMax (col x j)).val := by
  classical
  unfold firstRow
  rw [stretch, asRow, multiReductionI_eq_fold, Shape.Reduces.fold_filter_drop_single]
  generalize hsel : select (cmpf .oeq x (broadcastTo (Mat 64 n) (shapeCast (Mat 1 n)
        (multiReduction .maximumf [0] (Row n) x 0xFF800000#32 hr hφ hacc) hs) hb))
      (iota .tc (Mat 64 n) 32 [0] hi) (broadcast (Mat 64 n) 64#32) = sel
  have sp := firstMax_spec (col x j)
  have entry : ∀ k : Fin 64, sel (ix2 k j)
      = if col x j k = col x j (firstMax (col x j)) then BitVec.ofNat 32 k.val else 64#32 := by
    intro k
    rw [← hsel, select_apply, cmpf_apply, stretch, asRow, max_col, iota_single_apply, Ideal.cmpf_def]
    show Scalar.select (BitVec.ofBool (decide (col x j k = col x j (firstMax (col x j))))) (BitVec.ofNat 32 k.val) 64#32 = _
    by_cases e : col x j k = col x j (firstMax (col x j))
    · rw [if_pos e, decide_eq_true e]; rfl
    · rw [if_neg e, decide_eq_false e]; rfl
  have hg : (sel ∘ hr.lift (ix1 j)) = fun k : Fin 64 => sel (ix2 k j) := funext fun k => congrArg sel (lift_col hr j k)
  refine (congrArg (fun g : Fin 64 → BitVec 32 => Finset.fold (IKind.op .minsi) (2147483647#32) g Finset.univ) hg).trans ?_
  refine fold_minsi _ _ _ ?_ ?_ (firstMax (col x j)) ?_
  · rw [toInt_small _ (by omega)]
    have : (2147483647#32 : BitVec 32).toInt = 2147483647 := by decide
    rw [this]; omega
  · intro k
    rw [entry k, toInt_small _ (by omega)]
    split
    · next e =>
      rw [toInt_small _ (by omega)]
      have : ¬ k < firstMax (col x j) := fun h => absurd e (ne_of_lt (sp.2 k h))
      have := Fin.le_def.mp (not_lt.mp this)
      exact_mod_cast this
    · have : (64#32 : BitVec 32).toInt = 64 := by decide
      rw [this]; omega
  · rw [entry, if_pos rfl]

/-- Whether row `m` is row `p`, as a bit. -/
theorem cmpi_row (m p : Fin 64) :
    IntOp.cmpi .eq (BitVec.ofNat 32 m.val) (BitVec.ofNat 32 p.val) = if m = p then 1#1 else 0#1 := by
  have : (BitVec.ofNat 32 m.val = BitVec.ofNat 32 p.val) ↔ m = p := by
    constructor
    · intro h
      have := congrArg BitVec.toNat h
      simp only [BitVec.toNat_ofNat] at this
      exact Fin.ext (by omega)
    · rintro rfl; rfl
  by_cases e : m = p
  · subst e; simp [IntOp.cmpi]
  · have hne : ¬ BitVec.ofNat 32 m.val = BitVec.ofNat 32 p.val := fun h => e (this.mp h)
    simp only [IntOp.cmpi, if_neg e]
    rw [show (BitVec.ofNat 32 m.val == BitVec.ofNat 32 p.val) = false from beq_eq_false_iff_ne.mpr hne]; rfl

/-- That bit as a number. -/
theorem bit_number (P : Prop) [Decidable P] :
    (FloatOps.sitofp .f32 ((if P then 1#1 else 0#1 : BitVec 1).setWidth 32) : Ideal .f32) = if P then (1 : EReal) else 0 := by
  show (((((if P then 1#1 else 0#1 : BitVec 1).setWidth 32).toInt : ℝ)) : EReal) = _
  by_cases h : P <;> simp [h]

/-- The contraction of the columns of `L` with the rows of `R`, at `(o, j)`. -/
theorem dot_rows {a k n : Nat} {φ₁ φ₂ : FTy} (d : DotDims (Mat a k) (Mat k n) (Mat a n)) (hlc : d.lhsContracting = [1])
    (hrc : d.rhsContracting = [0]) (hln : d.lhsNonContracting = [0]) (hrn : d.rhsNonContracting = [1]) (hlb : d.lhsBatch = [])
    (hrb : d.rhsBatch = []) (prec : Option ContractPrecision) (L : FVec Ideal (Mat a k) φ₁) (R : FVec Ideal (Mat k n) φ₂)
    (o : Fin a) (j : Fin n) :
    matmul d prec L R (constant (Mat a n) .f32 0x00000000#32) (ix2 o j) = ∑ c : Fin k, L (ix2 o c) * R (ix2 c j) := by
  cases d with
  | mk lc rc ln rn lb rb wf =>
    simp only at hlc hrc hln hrn hlb hrb
    subst hlc hrc hln hrn hlb hrb
    refine (Ideal.matmul_constant_zero_apply _ prec L R _).trans ?_
    rw [← Equiv.sum_comp (contrEquiv1 _ k rfl rfl).symm]
    refine Finset.sum_congr rfl fun c _ => ?_
    have hc := contrEquiv1_symm_val (DotDims.mk (so := Mat a n) [1] [0] [0] [1] [] [] wf) k rfl rfl c
    congr 1
    · refine congrArg L (funext fun b => Fin.ext ?_)
      match b with
      | ⟨0, _⟩ => rfl
      | ⟨1, _⟩ => exact (DotDims.lhsIdx_val_of_single _ rfl _ _).trans hc
    · refine congrArg R (funext fun b => Fin.ext ?_)
      match b with
      | ⟨0, _⟩ => exact (DotDims.rhsIdx_val_of_single _ rfl _ _).trans hc
      | ⟨1, _⟩ => rfl

/-- The contraction of the rows of `L` with the rows of `R`, at `(m, j)`. -/
theorem dot_cols {k a n : Nat} {φ₁ φ₂ : FTy} (d : DotDims (Mat k a) (Mat k n) (Mat a n)) (hlc : d.lhsContracting = [0])
    (hrc : d.rhsContracting = [0]) (hln : d.lhsNonContracting = [1]) (hrn : d.rhsNonContracting = [1]) (hlb : d.lhsBatch = [])
    (hrb : d.rhsBatch = []) (prec : Option ContractPrecision) (L : FVec Ideal (Mat k a) φ₁) (R : FVec Ideal (Mat k n) φ₂)
    (m : Fin a) (j : Fin n) :
    matmul d prec L R (constant (Mat a n) .f32 0x00000000#32) (ix2 m j) = ∑ c : Fin k, L (ix2 c m) * R (ix2 c j) := by
  cases d with
  | mk lc rc ln rn lb rb wf =>
    simp only at hlc hrc hln hrn hlb hrb
    subst hlc hrc hln hrn hlb hrb
    refine (Ideal.matmul_constant_zero_apply _ prec L R _).trans ?_
    rw [← Equiv.sum_comp (contrEquiv1 _ k rfl rfl).symm]
    refine Finset.sum_congr rfl fun c _ => ?_
    have hc := contrEquiv1_symm_val (DotDims.mk (so := Mat a n) [0] [0] [1] [1] [] [] wf) k rfl rfl c
    congr 1
    · refine congrArg L (funext fun b => Fin.ext ?_)
      match b with
      | ⟨0, _⟩ => exact (DotDims.lhsIdx_val_of_single _ rfl _ _).trans hc
      | ⟨1, _⟩ => rfl
    · refine congrArg R (funext fun b => Fin.ext ?_)
      match b with
      | ⟨0, _⟩ => exact (DotDims.rhsIdx_val_of_single _ rfl _ _).trans hc
      | ⟨1, _⟩ => rfl

/-- Position `m` of part `k`, of three parts of 64. -/
abbrev part (k : Fin 3) (m : Fin 64) : Fin 192 := ⟨64 * k.val + m.val, by omega⟩

/-- A sum over 192 is the sum over three parts of 64. -/
theorem sum_parts (g : Fin 192 → EReal) : ∑ q, g q = ∑ k : Fin 3, ∑ m : Fin 64, g (part k m) := by
  rw [← Fintype.sum_prod_type' fun (k : Fin 3) (m : Fin 64) => g (part k m),
    ← Equiv.sum_comp (finProdFinEquiv (m := 3) (n := 64)) g]
  refine Finset.sum_congr rfl fun x _ => congrArg g (Fin.ext ?_)
  show x.2.val + 64 * x.1.val = 64 * x.1.val + x.2.val
  omega

/-- Three matrices stacked by rows, read at row `m` of part `k`. -/
theorem stack_rows {n : Nat} {α : Type} (x : Fin 3 → (Mat 64 n).Idx → α)
    (h : Shape.Concatenates [Mat 64 n, Mat 64 n, Mat 64 n] (Mat 192 n) 0) (k : Fin 3) (m : Fin 64) (j : Fin n) :
    concatenate (Mat 192 n) 0 [⟨Mat 64 n, x 0⟩, ⟨Mat 64 n, x 1⟩, ⟨Mat 64 n, x 2⟩] h (ix2 (part k m) j) = x k (ix2 m j) := by
  fin_cases k
  · refine concatenate_apply_piece (t := Mat 192 n) 0 [⟨Mat 64 n, x 0⟩, ⟨Mat 64 n, x 1⟩, ⟨Mat 64 n, x 2⟩] h _ 0 (by simp) (Mat 64 n) (x 0) rfl rfl 0 rfl _ ?_ ?_
    · intro b hb
      match b with
      | ⟨0, _⟩ => exact absurd rfl hb
      | ⟨1, _⟩ => rfl
    · show 0 + m.val = 64 * 0 + m.val; omega
  · refine concatenate_apply_piece (t := Mat 192 n) 0 [⟨Mat 64 n, x 0⟩, ⟨Mat 64 n, x 1⟩, ⟨Mat 64 n, x 2⟩] h _ 1 (by simp) (Mat 64 n) (x 1) rfl rfl 64 rfl _ ?_ ?_
    · intro b hb
      match b with
      | ⟨0, _⟩ => exact absurd rfl hb
      | ⟨1, _⟩ => rfl
    · show 64 + m.val = 64 * 1 + m.val; omega
  · refine concatenate_apply_piece (t := Mat 192 n) 0 [⟨Mat 64 n, x 0⟩, ⟨Mat 64 n, x 1⟩, ⟨Mat 64 n, x 2⟩] h _ 2 (by simp) (Mat 64 n) (x 2) rfl rfl 128 rfl _ ?_ ?_
    · intro b hb
      match b with
      | ⟨0, _⟩ => exact absurd rfl hb
      | ⟨1, _⟩ => rfl
    · show 128 + m.val = 64 * 2 + m.val; omega

/-- Three matrices set side by side, read at column `m` of part `k`. -/
theorem stack_cols {a : Nat} {α : Type} (x : Fin 3 → (Mat a 64).Idx → α)
    (h : Shape.Concatenates [Mat a 64, Mat a 64, Mat a 64] (Mat a 192) 1) (k : Fin 3) (m : Fin 64) (o : Fin a) :
    concatenate (Mat a 192) 1 [⟨Mat a 64, x 0⟩, ⟨Mat a 64, x 1⟩, ⟨Mat a 64, x 2⟩] h (ix2 o (part k m)) = x k (ix2 o m) := by
  fin_cases k
  · refine concatenate_apply_piece (t := Mat a 192) 1 [⟨Mat a 64, x 0⟩, ⟨Mat a 64, x 1⟩, ⟨Mat a 64, x 2⟩] h _ 0 (by simp) (Mat a 64) (x 0) rfl rfl 0 rfl _ ?_ ?_
    · intro b hb
      match b with
      | ⟨0, _⟩ => rfl
      | ⟨1, _⟩ => exact absurd rfl hb
    · show 0 + m.val = 64 * 0 + m.val; omega
  · refine concatenate_apply_piece (t := Mat a 192) 1 [⟨Mat a 64, x 0⟩, ⟨Mat a 64, x 1⟩, ⟨Mat a 64, x 2⟩] h _ 1 (by simp) (Mat a 64) (x 1) rfl rfl 64 rfl _ ?_ ?_
    · intro b hb
      match b with
      | ⟨0, _⟩ => rfl
      | ⟨1, _⟩ => exact absurd rfl hb
    · show 64 + m.val = 64 * 1 + m.val; omega
  · refine concatenate_apply_piece (t := Mat a 192) 1 [⟨Mat a 64, x 0⟩, ⟨Mat a 64, x 1⟩, ⟨Mat a 64, x 2⟩] h _ 2 (by simp) (Mat a 64) (x 2) rfl rfl 128 rfl _ ?_ ?_
    · intro b hb
      match b with
      | ⟨0, _⟩ => rfl
      | ⟨1, _⟩ => exact absurd rfl hb
    · show 128 + m.val = 64 * 2 + m.val; omega

end Cert.Proof

end

end
-- ==== Proof.Payloads.lean ====
/- What each vector value of the kernel body holds at an index, at the extended reals: the scaled samples, the weighted samples,
   the scores, the three rounds that pick the best sample and mask it, and the block the body stores. -/
module

public import proofs.«01_k».proof.Proof.Columns
public import proofs.«01_k».proof.Proof.Gen.KernelIdeal.Skeleton

@[expose] public section

set_option maxRecDepth 16384

noncomputable section

namespace Cert.Proof

open Idealize.ShloMosaic Idealize.ShloMosaic.ValueIdx
open Cert.KernelIdeal Cert.KernelIdeal.Gen
open scoped BigOperators

/-- Dropping the leading unit axis of a block: the entry `(c, j)` is the block's `(0, c, j)`. -/
theorem drop_unit {a n : Nat} {α : Type} (v : (⟨3, ![1, a, n]⟩ : Shape).Idx → α)
    (h : (⟨3, ![1, a, n]⟩ : Shape).ShapeCasts (Mat a n)) (c : Fin a) (j : Fin n) :
    shapeCast (Mat a n) v h (ix2 c j) = v (ix3 0 c j) := by
  refine (shapeCast_dropUnit_apply ![a, n] v h (ix2 c j)).trans (congrArg v ?_)
  funext b
  match b with
  | ⟨0, _⟩ => rfl
  | ⟨1, _⟩ => rfl
  | ⟨2, _⟩ => rfl

/-- Adding a leading unit axis: the block's `(z, c, j)` is the entry `(c, j)`. -/
theorem add_unit {a n : Nat} {α : Type} (v : (Mat a n).Idx → α) (h : (Mat a n).ShapeCasts ⟨3, ![1, a, n]⟩) (z : Fin 1)
    (c : Fin a) (j : Fin n) : shapeCast (⟨3, ![1, a, n]⟩ : Shape) v h (ix3 z c j) = v (ix2 c j) := by
  refine (shapeCast_addUnit_apply ![a, n] v h (ix3 z c j)).trans (congrArg v ?_)
  funext b
  match b with
  | ⟨0, _⟩ => rfl
  | ⟨1, _⟩ => rfl

/-- The lengths of a matrix's columns, stretched over the rows. -/
theorem len_col {n : Nat} (x : FVec Ideal (Mat 96 n) .f32) (hr : (Mat 96 n).Reduces [0] (Row n)) (hs : (Row n).ShapeCasts (Mat 1 n))
    (hb : (Mat 1 n).Broadcasts (Mat 96 n)) (hφ : FKind.Formats .f32)
    (hacc : (0x00000000#32 : BitVec (FTy.bits .f32)) = FKind.add.neutral .f32 hφ) (c : Fin 96) (j : Fin n) :
    broadcastTo (Mat 96 n) (maximumf (sqrt (shapeCast (Mat 1 n)
      (multiReduction .add [0] (Row n) (mulf x x) 0x00000000#32 hr hφ hacc) hs))
      (broadcast (Mat 1 n) (Scalar.ofBits .f32 0x2B8CBCCC#32))) hb (ix2 c j) = len (col x j) := by
  rw [stretch, ValueIdx.maximumf_apply]
  show max (Ideal.sqrt (shapeCast (Mat 1 n) _ hs (ix2 0 j))) eps = _
  rw [asRow, sum_col]
  rfl

/-- The samples of a block, as the body reads them: sample `m`, channel `c`. -/
def samples (v : Vec Ideal S1x96x64 .f32) : Fin 64 → Fin 96 → EReal := fun m c => v (ix3 0 c m)

/-- The vectors of a block, as the body reads them: vector `n`, channel `c`. -/
def vectors (v : Vec Ideal S1x96x12544 .f32) : Fin 12544 → Fin 96 → EReal := fun n c => v (ix3 0 c n)

/-- The block's samples without the unit axis. -/
theorem pay2_apply (v : Vec Ideal S1x96x64 .f32) (c : Fin 96) (m : Fin 64) : k0_pay2 v (ix2 c m) = samples v m c := by
  unfold k0_pay2
  exact drop_unit v _ c m

/-- The scaled samples. -/
theorem pay3_apply (v : Vec Ideal S1x96x64 .f32) (c : Fin 96) (m : Fin 64) : k0_pay3 v (ix2 c m) = unit (samples v m) c := by
  unfold k0_pay3
  dsimp only
  rw [shapeCast_self, ValueIdx.divf_apply]
  have hcol : col (k0_pay2 v) m = samples v m := funext fun c => pay2_apply v c m
  rw [pay2_apply]
  refine (congrArg (Ideal.div _) (len_col (k0_pay2 v) _ _ _ _ _ c m)).trans ?_
  rw [hcol]; rfl

/-- The weighted samples, each with a third of the bias: output channel `o`, weights `k`, sample `m`. -/
theorem pay4_apply (v : Vec Ideal S1x96x64 .f32) (w : Fin 3 → Vec Ideal S1x96x96 .f32) (b : Vec Ideal S96x1 .f32) (o : Fin 96)
    (k : Fin 3) (m : Fin 64) :
    k0_pay4 v (w 0) (w 1) (w 2) b (ix2 o (part k m))
      = (∑ i, w k (ix3 0 o i) * samples v m i) + Ideal.div (b (ix2 o 0)) ((3 : ℝ) : EReal) := by
  unfold k0_pay4
  rw [shapeCast_self, ValueIdx.addf_apply, shapeCast_self]
  congr 1
  · refine (stack_cols (fun k : Fin 3 => matmul (F := Ideal) dot_S96x96_S96x64_S96x64_1_0_0_1_n_n (some .fp32)
      (shapeCast S96x96 (w k) Facts₀.shapeCasts_S1x96x96_S96x96) (k0_pay2 v) (constant S96x64 .f32 0x00000000#32)) _ k m o).trans ?_
    refine (dot_rows _ rfl rfl rfl rfl rfl rfl _ _ _ o m).trans ?_
    refine Finset.sum_congr rfl fun i _ => ?_
    rw [pay2_apply]
    exact congrArg (· * _) (drop_unit (w k) _ o i)
  · refine (broadcastTo_apply _ _ (ix2 o (part k m)) (ix2 o 0) fun a => ?_).trans ?_
    · match a with
      | ⟨0, _⟩ => rfl
      | ⟨1, _⟩ => rfl
    · rw [ValueIdx.divf_apply]
      exact congrArg (Ideal.div _) ofBits_three

/-- The scores: sample `m` (scaled, as `s` holds them) against vector `n` of the block. -/
theorem pay5_apply (x : Vec Ideal S1x96x12544 .f32) (s : Vec Ideal S96x64 .f32) (m : Fin 64) (n : Fin 12544) :
    k0_pay5 x s (ix2 m n) = ∑ c, s (ix2 c m) * unit (vectors x n) c := by
  unfold k0_pay5
  dsimp only
  refine (dot_cols _ rfl rfl rfl rfl rfl rfl _ _ _ m n).trans ?_
  refine Finset.sum_congr rfl fun c _ => ?_
  congr 1
  rw [ValueIdx.divf_apply]
  refine (congrArg (Ideal.div _) (len_col _ _ _ _ _ _ c n)).trans ?_
  have hcol : col (shapeCast S96x12544 x Facts₀.shapeCasts_S1x96x12544_S96x12544) n = vectors x n :=
    funext fun c => drop_unit x _ c n
  rw [hcol]
  exact congrArg (Ideal.div · _) (drop_unit x _ c n)

/-- One round on the scores `f`: for each column, the number of the best row, in every row. -/
abbrev bestRow (f : FVec Ideal S64x12544 .f32) : IVec S64x12544 32 :=
  firstRow f Facts₀.reduces_S64x12544_S12544 Facts₀.shapeCasts_S12544_S1x12544 Facts₀.broadcasts_S1x12544_S64x12544
    Facts₀.iota_S64x12544_d0_w32 (.inl rfl) rfl rfl

/-- The row numbers. -/
abbrev rowNo : IVec S64x12544 32 := iota .tc S64x12544 32 [0] Facts₀.iota_S64x12544_d0_w32

/-- Where the row is the best row of its column. -/
abbrev isBest (f : FVec Ideal S64x12544 .f32) : IVec S64x12544 1 := cmpi .eq rowNo (bestRow f)

/-- That bit as a number. -/
abbrev oneHot (f : FVec Ideal S64x12544 .f32) : FVec Ideal S64x12544 .bf16 :=
  truncf .bf16 (sitofp .f32 (extui 32 (isBest f) Facts₀.natLt_1_32)) Facts₀.bitsLt_bf16_f32

/-- The scores with each column's best put at `⊥`. -/
abbrev masked (f : FVec Ideal S64x12544 .f32) : FVec Ideal S64x12544 .f32 :=
  select (isBest f) (broadcast S64x12544 (Scalar.ofBits .f32 0xFF800000#32)) f

/-- The bit at row `m`, column `n`. -/
theorem isBest_apply (f : FVec Ideal S64x12544 .f32) (m : Fin 64) (n : Fin 12544) :
    isBest f (ix2 m n) = if m = firstMax (col f n) then 1#1 else 0#1 := by
  show IntOp.cmpi .eq (rowNo (ix2 m n)) (bestRow f (ix2 m n)) = _
  rw [show bestRow f (ix2 m n) = BitVec.ofNat 32 (firstMax (col f n)).val from firstRow_apply f _ _ _ _ _ _ _ m n,
    show rowNo (ix2 m n) = BitVec.ofNat 32 m.val from iota_single_apply _ _ _ _ _ _]
  exact cmpi_row m _

/-- The number at row `m`, column `n`. -/
theorem oneHot_apply (f : FVec Ideal S64x12544 .f32) (m : Fin 64) (n : Fin 12544) :
    oneHot f (ix2 m n) = if m = firstMax (col f n) then (1 : EReal) else 0 := by
  show (FloatOps.sitofp .f32 ((isBest f (ix2 m n)).setWidth 32) : Ideal .f32) = _
  rw [isBest_apply]
  exact bit_number _

/-- The masked score at row `m`, column `n`. -/
theorem masked_apply (f : FVec Ideal S64x12544 .f32) (m : Fin 64) (n : Fin 12544) :
    masked f (ix2 m n) = mask (col f n) (firstMax (col f n)) m := by
  refine (select_apply (isBest f) _ f (ix2 m n)).trans ?_
  rw [isBest_apply]
  unfold mask
  by_cases h : m = firstMax (col f n)
  · rw [if_pos h, if_pos h]; exact ofBits_neg_inf
  · rw [if_neg h, if_neg h]; rfl

/-- The masked scores of column `n`. -/
theorem col_masked (f : FVec Ideal S64x12544 .f32) (n : Fin 12544) : col (masked f) n = mask (col f n) (firstMax (col f n)) :=
  funext fun m => (col_apply (masked f) n m).trans (masked_apply f m n)

/-- The values the body's first part hands on are the rounds on the scores: the first round's row, … -/
theorem pay6_eq (x : Vec Ideal S1x96x12544 .f32) (s : Vec Ideal S96x64 .f32) : k0_pay6 x s = isBest (k0_pay5 x s) := rfl
/-- … its numbers, … -/
theorem pay7_eq (x : Vec Ideal S1x96x12544 .f32) (s : Vec Ideal S96x64 .f32) : k0_pay7 x s = oneHot (k0_pay5 x s) := rfl
/-- … the masked scores, … -/
theorem pay8_eq (x : Vec Ideal S1x96x12544 .f32) (s : Vec Ideal S96x64 .f32) : k0_pay8 x s = masked (k0_pay5 x s) := rfl
/-- … and the second round's best row. -/
theorem pay9_eq (x : Vec Ideal S1x96x12544 .f32) (s : Vec Ideal S96x64 .f32) : k0_pay9 x s = bestRow (masked (k0_pay5 x s)) := rfl

/-- The three rounds' numbers, on the scores `f`. -/
def rounds (f : FVec Ideal S64x12544 .f32) : Fin 3 → FVec Ideal S64x12544 .bf16 :=
  ![oneHot f, oneHot (masked f), oneHot (masked (masked f))]

/-- Round `k` marks the pick `k` of each column. -/
theorem rounds_apply (f : FVec Ideal S64x12544 .f32) (k : Fin 3) (m : Fin 64) (n : Fin 12544) :
    rounds f k (ix2 m n) = if m = pick (col f n) k then (1 : EReal) else 0 := by
  fin_cases k
  · exact oneHot_apply f m n
  · refine (oneHot_apply (masked f) m n).trans ?_
    rw [col_masked]; rfl
  · refine (oneHot_apply (masked (masked f)) m n).trans ?_
    rw [col_masked, col_masked]; rfl

/-- THE STORED BLOCK: at output channel `o` and vector `n`, the weighted samples `p` of the three picks, not below zero. -/
theorem pay1_apply (f : FVec Ideal S64x12544 .f32) (p : Vec Ideal S96x192 .f32) (z : Fin 1) (o : Fin 96) (n : Fin 12544) :
    k0_pay1 rowNo (oneHot f) (masked f) (bestRow (masked f)) p (ix3 z o n)
      = max (∑ k : Fin 3, p (ix2 o (part k (pick (col f n) k)))) 0 := by
  have e : k0_pay1 rowNo (oneHot f) (masked f) (bestRow (masked f)) p
      = shapeCast S1x96x12544 (maximumf (matmul (F := Ideal) dot_S96x192_S192x12544_S96x12544_1_0_0_1_n_n none p
          (concatenate S192x12544 0 [⟨S64x12544, rounds f 0⟩, ⟨S64x12544, rounds f 1⟩, ⟨S64x12544, rounds f 2⟩]
            Facts₀.concatenates_S64x12544_S64x12544_S64x12544_S192x12544_d0) (constant S96x12544 .f32 0x00000000#32))
          (broadcast S96x12544 (Scalar.ofBits .f32 0x00000000#32))) Facts₀.shapeCasts_S96x12544_S1x96x12544 := rfl
  rw [e, add_unit, ValueIdx.maximumf_apply]
  have hz : (broadcast S96x12544 (Scalar.ofBits .f32 0x00000000#32 : Ideal .f32)) (ix2 o n) = (0 : EReal) := Ideal.ofBits_zero_f32
  rw [hz]
  refine congrArg (max · (0 : EReal)) ?_
  refine (dot_rows _ rfl rfl rfl rfl rfl rfl _ _ _ o n).trans ?_
  rw [sum_parts]
  refine Finset.sum_congr rfl fun k _ => ?_
  refine Eq.trans ?_ (sum_onehot (fun m => p (ix2 o (part k m))) (pick (col f n) k))
  refine Finset.sum_congr rfl fun m _ => ?_
  refine congrArg (p (ix2 o (part k m)) * ·) ?_
  exact (stack_rows (rounds f) _ k m n).trans (rounds_apply f k m n)

end Cert.Proof

end

end
-- ==== Proof.Blocks.lean ====
/- What the kernel body leaves at a grid point, in terms of the blocks it was handed: the scaled samples and the weighted samples
   in the two scratch buffers (written at a batch's first point, kept at the others), and the stored output block. -/
module

public import proofs.«01_k».proof.Proof.Payloads
public import proofs.«01_k».proof.Proof.Gen.KernelIdeal.Frame

@[expose] public section

set_option maxRecDepth 16384

noncomputable section

namespace Cert.Proof

open Idealize.ShloMosaic Idealize.ShloMosaic.ValueIdx Idealize.ShloMosaic.TcCoe
open Idealize.SL Idealize.SL.Sem
open Cert.KernelIdeal Cert.KernelIdeal.Gen
open scoped BigOperators

/-- The three weight matrices as the body reads them: the `k`-th of a block of three. -/
def weights (x : Vec Ideal S3x96x96 .f32) (k : Fin 3) : Vec Ideal S1x96x96 .f32 := fun i => x (ix3 k (i 1) (i 2))

/-- The zero offsets of a rank-two buffer. -/
theorem zeros2 : (![0, 0] : Fin 2 → Nat) = fun _ => 0 := funext fun b => by match b with | ⟨0, _⟩ => rfl | ⟨1, _⟩ => rfl

/-- The zero offsets of a rank-three buffer. -/
theorem zeros3 : (![0, 0, 0] : Fin 3 → Nat) = fun _ => 0 :=
  funext fun b => by match b with | ⟨0, _⟩ => rfl | ⟨1, _⟩ => rfl | ⟨2, _⟩ => rfl

/-- A load of one of three matrices. -/
theorem ld_weights (X : Vec Ideal S3x96x96 .f32) (k : Fin 3)
    (inb : ∀ d, (![k.val, 0, 0] : Fin 3 → Nat) d + S1x96x96.size d ≤ S3x96x96.size d) :
    View.ld (Val := Elt Ideal) (e' := .f32) X (Rect.unit (s := S3x96x96) ![k.val, 0, 0] S1x96x96.size inb) = weights X k := by
  funext i
  show X _ = X _
  refine congrArg X (funext fun d => Fin.ext ?_)
  have h0 : (i 0).val < 1 := (i 0).isLt
  match d with
  | ⟨0, _⟩ => show k.val + 1 * (i 0).val = k.val; omega
  | ⟨1, _⟩ => show 0 + 1 * (i 1).val = (i 1).val; omega
  | ⟨2, _⟩ => show 0 + 1 * (i 2).val = (i 2).val; omega

section Body
variable (c : Dev nD) (i : grid0.Coords) (arg2 : Memref sig .tc .vmem S1x96x64 .f32) (harg2 : arg2.IsWhole)
  (arg3 : Memref sig .tc .vmem S3x96x96 .f32) (harg3 : arg3.IsWhole) (arg4 : Memref sig .tc .vmem S96x1 .f32) (harg4 : arg4.IsWhole)
  (arg5 : Memref sig .tc .vmem S1x96x12544 .f32) (harg5 : arg5.IsWhole) (arg6 : Memref sig .tc .vmem S1x96x12544 .f32)
  (harg6 : arg6.IsWhole) (arg7 : Memref sig .tc .vmem S96x64 .f32) (harg7 : arg7.IsWhole) (arg8 : Memref sig .tc .vmem S96x192 .f32)
  (harg8 : arg8.IsWhole) (x0 : Vec Ideal S1x96x64 .f32) (x1 : Vec Ideal S3x96x96 .f32) (x2 : Vec Ideal S96x1 .f32)
  (x3 : Vec Ideal S1x96x12544 .f32)

/-- The stored block, from the scaled samples, the weighted samples and the block of vectors. -/
def stored (s : Vec Ideal S96x64 .f32) (p : Vec Ideal S96x192 .f32) (x : Vec Ideal S1x96x12544 .f32) : Vec Ideal S1x96x12544 .f32 :=
  k0_pay1 rowNo (oneHot (k0_pay5 x s)) (masked (k0_pay5 x s)) (bestRow (masked (k0_pay5 x s))) p

/-- The stored block as the body computes it, its loads read. -/
theorem stored_of {x x' : Vec Ideal S1x96x12544 .f32} {s s' : Vec Ideal S96x64 .f32} {p p' : Vec Ideal S96x192 .f32}
    (hx : x = x') (hs : s = s') (hp : p = p') :
    k0_pay1 rowNo (k0_pay7 x s) (k0_pay8 x s) (k0_pay9 x s) p = stored s' p' x' := by
  subst hx hs hp
  rw [pay7_eq, pay8_eq, pay9_eq]
  rfl

/-- The weighted samples as the body computes them, its loads read. -/
theorem weighted_of {x x' : Vec Ideal S1x96x64 .f32} {w0 w0' w1 w1' w2 w2' : Vec Ideal S1x96x96 .f32} {b b' : Vec Ideal S96x1 .f32}
    (hx : x = x') (h0 : w0 = w0') (h1 : w1 = w1') (h2 : w2 = w2') (hb : b = b') :
    k0_pay4 x w0 w1 w2 b = k0_pay4 x' w0' w1' w2' b' := by
  subst hx h0 h1 h2 hb; rfl

/-- At a batch's first point the first scratch is left with the scaled samples. -/
theorem scaled_A (hc0 : cond0_0 i) :
    sout0_A_0 c i arg2 harg2 arg3 harg3 arg4 harg4 arg5 harg5 arg6 harg6 arg7 harg7 arg8 harg8 hc0 x0 x1 x2 x3 = k0_pay3 x0 := by
  unfold sout0_A_0
  rw [View.read_writes_eq_canon _ _ _
    (scover0_A_0 c i arg2 harg2 arg3 harg3 arg4 harg4 arg5 harg5 arg6 harg6 arg7 harg7 arg8 harg8 hc0 x0 x1 x2 x3)]
  unfold kernelRun0_A
  dsimp only
  sl_unfold_words
  simp only [View.readAt_eq_ld, harg2.read_unread]
  refine (View.canon_unit_zero zeros2 _ _).trans ?_
  exact congrArg k0_pay3 (View.ld_unit_zero zeros3 _ x0)

/-- … and the second with the weighted samples. -/
theorem weighted_A (hc0 : cond0_0 i) :
    sout0_A_1 c i arg2 harg2 arg3 harg3 arg4 harg4 arg5 harg5 arg6 harg6 arg7 harg7 arg8 harg8 hc0 x0 x1 x2 x3
      = k0_pay4 x0 (weights x1 0) (weights x1 1) (weights x1 2) x2 := by
  unfold sout0_A_1
  rw [View.read_writes_eq_canon _ _ _
    (scover0_A_1 c i arg2 harg2 arg3 harg3 arg4 harg4 arg5 harg5 arg6 harg6 arg7 harg7 arg8 harg8 hc0 x0 x1 x2 x3)]
  unfold kernelRun0_A
  dsimp only
  sl_unfold_words
  simp only [View.readAt_eq_ld, harg2.read_unread, harg3.read_unread, harg4.read_unread]
  refine (View.canon_unit_zero zeros2 _ _).trans ?_
  exact weighted_of (View.ld_unit_zero zeros3 _ x0) (ld_weights x1 0 _) (ld_weights x1 1 _) (ld_weights x1 2 _)
    (View.ld_unit_zero zeros2 _ x2)

/-- At a batch's first point the output block is the stored block, from what the scratch is left with. -/
theorem block_A (hc0 : cond0_0 i) :
    out0_A_4 c i arg2 harg2 arg3 harg3 arg4 harg4 arg5 harg5 arg6 harg6 arg7 harg7 arg8 harg8 hc0 x0 x1 x2 x3
      = stored (k0_pay3 x0) (k0_pay4 x0 (weights x1 0) (weights x1 1) (weights x1 2) x2) x3 := by
  unfold out0_A_4
  rw [View.read_writes_eq_canon _ _ _
    (cover0_A_4 c i arg2 harg2 arg3 harg3 arg4 harg4 arg5 harg5 arg6 harg6 arg7 harg7 arg8 harg8 hc0 x0 x1 x2 x3)]
  unfold kernelRun0_A
  dsimp only
  sl_unfold_words
  simp only [View.readAt_eq_ld, harg2.read_unread, harg3.read_unread, harg4.read_unread, harg5.read_unread]
  refine (View.canon_unit_zero zeros3 _ _).trans ?_
  refine stored_of (View.ld_unit_zero zeros3 _ x3) ?_ ?_
  · refine (View.readCov_unit_zero _ zeros2 _ _).trans ?_
    exact congrArg k0_pay3 (View.ld_unit_zero zeros3 _ x0)
  · refine (View.readCov_unit_zero _ zeros2 _ _).trans ?_
    exact weighted_of (View.ld_unit_zero zeros3 _ x0) (ld_weights x1 0 _) (ld_weights x1 1 _) (ld_weights x1 2 _)
      (View.ld_unit_zero zeros2 _ x2)

/-- At a later point of a batch the output block is the stored block, from what the scratch held. -/
theorem block_B (hc0 : ¬ cond0_0 i) (xs0 : Vec Ideal S96x64 .f32) (xs1 : Vec Ideal S96x192 .f32) :
    out0_B_4 c i arg2 harg2 arg3 harg3 arg4 harg4 arg5 harg5 arg6 harg6 arg7 harg7 arg8 harg8 hc0 x0 x1 x2 x3 xs0 xs1 = stored xs0 xs1 x3 := by
  unfold out0_B_4
  rw [View.read_writes_eq_canon _ _ _
    (cover0_B_4 c i arg2 harg2 arg3 harg3 arg4 harg4 arg5 harg5 arg6 harg6 arg7 harg7 arg8 harg8 hc0 x0 x1 x2 x3 xs0 xs1)]
  unfold kernelRun0_B
  dsimp only
  sl_unfold_words
  simp only [View.readAt_eq_ld, harg5.read_unread, harg7.read_unread, harg8.read_unread]
  refine (View.canon_unit_zero zeros3 _ _).trans ?_
  exact stored_of (View.ld_unit_zero zeros3 _ x3) (View.ld_unit_zero zeros2 _ xs0) (View.ld_unit_zero zeros2 _ xs1)

end Body

/-- THE STORED BLOCK, entry by entry: the three best samples of the block's vector, each through its own weights. -/
theorem stored_apply (x0 : Vec Ideal S1x96x64 .f32) (x1 : Vec Ideal S3x96x96 .f32) (x2 : Vec Ideal S96x1 .f32)
    (x3 : Vec Ideal S1x96x12544 .f32) (z : Fin 1) (o : Fin 96) (n : Fin 12544) :
    stored (k0_pay3 x0) (k0_pay4 x0 (weights x1 0) (weights x1 1) (weights x1 2) x2) x3 (ix3 z o n)
      = best3 (fun k i => x1 (ix3 k o i)) (x2 (ix2 o 0)) (samples x0) (vectors x3 n) := by
  have hcol : col (k0_pay5 x3 (k0_pay3 x0)) n = score (samples x0) (vectors x3 n) := by
    funext m
    refine (col_apply _ n m).trans ((pay5_apply x3 (k0_pay3 x0) m n).trans ?_)
    exact Finset.sum_congr rfl fun c _ => by rw [pay3_apply]
  unfold stored best3
  refine (pay1_apply (k0_pay5 x3 (k0_pay3 x0)) _ z o n).trans (congrArg (max · 0) ?_)
  rw [hcol, ← sum_thirds]
  exact Finset.sum_congr rfl fun k _ => pay4_apply x0 (weights x1) x2 o k (pick (score (samples x0) (vectors x3 n)) k)

end Cert.Proof

end

end
-- ==== Proof.KernelRun.lean ====
/- The kernel's run, point by point: the scratch buffers hold the batch's scaled and weighted samples at every point, so each point
   stores its block of the result; and the array the run leaves, entry by entry, in terms of the arrays the region is entered with. -/
module

public import proofs.«01_k».proof.Proof.Blocks
public import Idealize.ShloMosaic.Lib.Pipeline.Value

@[expose] public section

set_option maxRecDepth 16384

noncomputable section

namespace Cert.Proof

open Idealize.ShloMosaic Idealize.ShloMosaic.ValueIdx Idealize.ShloMosaic.TcCoe
open Idealize.SL Idealize.SL.Sem
open Cert.KernelIdeal Cert.KernelIdeal.Gen
open Idealize.ShloMosaic.Pipeline (Dat)
open scoped BigOperators

variable (m : (ℓ : Loc nD τ sig) → Buf (Elt Ideal) ℓ)

/-- There are sixteen points. -/
theorem point_lt (t : Fin cfg0.N) : t.val < 16 := lt_of_lt_of_eq t.isLt (show cfg0.N = 16 from N_0)

/-- A point's batch: four consecutive points to each. -/
def batch (t : Fin cfg0.N) : Fin 4 := ⟨t.val / 4, by have := point_lt t; omega⟩

/-- A block's vector `n` in its batch's row of vectors. -/
def place (t : Fin cfg0.N) (n : Fin 12544) : Fin 50176 := ⟨12544 * (t.val % 4) + n.val, by have := n.isLt; omega⟩

/-- Which block of each array a point is handed. -/
theorem index_facts : ∀ t : Fin cfg0.N,
    (win0_0.index t (0 : Fin 3) = t.val / 4 ∧ win0_0.index t (1 : Fin 3) = 0 ∧ win0_0.index t (2 : Fin 3) = 0)
    ∧ (win0_1.index t (0 : Fin 3) = 0 ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 3) = t.val / 4 ∧ win0_3.index t (1 : Fin 3) = 0 ∧ win0_3.index t (2 : Fin 3) = t.val % 4)
    ∧ (win0_4.index t (0 : Fin 3) = t.val / 4 ∧ win0_4.index t (1 : Fin 3) = 0 ∧ win0_4.index t (2 : Fin 3) = t.val % 4) :=
  (by decide +kernel : ∀ t : Fin grid0.N, _)

/-- The batch's samples, as a point is handed them. -/
theorem block0_apply (c : Dev nD) (t : Fin cfg0.N) (z : Fin 1) (a : Fin 96) (j : Fin 64) :
    iblk m c 0 t (ix3 z a j) = V m c main_v18 (ix3 (batch t) a j) := by
  obtain ⟨⟨e0, e1, e2⟩, -, -, -, -⟩ := index_facts t
  refine congrArg (V m c main_v18) (funext fun d => Fin.ext ?_)
  match d with
  | ⟨0, _⟩ => show win0_0.index t (0 : Fin 3) * 1 + 1 * z.val = t.val / 4; omega
  | ⟨1, _⟩ => show win0_0.index t (1 : Fin 3) * 96 + 1 * a.val = a.val; omega
  | ⟨2, _⟩ => show win0_0.index t (2 : Fin 3) * 64 + 1 * j.val = j.val; omega

/-- The weights, as a point is handed them. -/
theorem block1_apply (c : Dev nD) (t : Fin cfg0.N) (k : Fin 3) (o i : Fin 96) :
    iblk m c 1 t (ix3 k o i) = V m c main_v19 (ix3 k o i) := by
  obtain ⟨-, ⟨e0, e1, e2⟩, -, -, -⟩ := index_facts t
  refine congrArg (V m c main_v19) (funext fun d => Fin.ext ?_)
  match d with
  | ⟨0, _⟩ => show win0_1.index t (0 : Fin 3) * 3 + 1 * k.val = k.val; omega
  | ⟨1, _⟩ => show win0_1.index t (1 : Fin 3) * 96 + 1 * o.val = o.val; omega
  | ⟨2, _⟩ => show win0_1.index t (2 : Fin 3) * 96 + 1 * i.val = i.val; omega

/-- The bias, as a point is handed it. -/
theorem block2_apply (c : Dev nD) (t : Fin cfg0.N) (o : Fin 96) (z : Fin 1) :
    iblk m c 2 t (ix2 o z) = V m c main_v20 (ix2 o z) := by
  obtain ⟨-, -, ⟨e0, e1⟩, -, -⟩ := index_facts t
  refine congrArg (V m c main_v20) (funext fun d => Fin.ext ?_)
  match d with
  | ⟨0, _⟩ => show win0_2.index t (0 : Fin 2) * 96 + 1 * o.val = o.val; omega
  | ⟨1, _⟩ => show win0_2.index t (1 : Fin 2) * 1 + 1 * z.val = z.val; omega

/-- The vectors, as a point is handed them. -/
theorem block3_apply (c : Dev nD) (t : Fin cfg0.N) (z : Fin 1) (a : Fin 96) (n : Fin 12544) :
    iblk m c 3 t (ix3 z a n) = V m c main_v21 (ix3 (batch t) a (place t n)) := by
  obtain ⟨-, -, -, ⟨e0, e1, e2⟩, -⟩ := index_facts t
  refine congrArg (V m c main_v21) (funext fun d => Fin.ext ?_)
  match d with
  | ⟨0, _⟩ => show win0_3.index t (0 : Fin 3) * 1 + 1 * z.val = t.val / 4; omega
  | ⟨1, _⟩ => show win0_3.index t (1 : Fin 3) * 96 + 1 * a.val = a.val; omega
  | ⟨2, _⟩ => show win0_3.index t (2 : Fin 3) * 12544 + 1 * n.val = 12544 * (t.val % 4) + n.val; omega

/-- The samples a point is handed are those of any other point of its batch. -/
theorem block0_same (c : Dev nD) (t t' : Fin cfg0.N) (h : batch t = batch t') :
    (iblk m c 0 t : Vec Ideal S1x96x64 .f32) = iblk m c 0 t' := by
  funext i
  obtain ⟨z, a, j, rfl⟩ : ∃ z a j, i = ix3 z a j := ⟨i 0, i 1, i 2, eq_ix3 i⟩
  exact (block0_apply m c t z a j).trans ((congrArg (fun b => V m c main_v18 (ix3 b a j)) h).trans (block0_apply m c t' z a j).symm)

/-- Every point is handed the same weights. -/
theorem block1_same (c : Dev nD) (t t' : Fin cfg0.N) : (iblk m c 1 t : Vec Ideal S3x96x96 .f32) = iblk m c 1 t' := by
  funext i
  obtain ⟨k, a, j, rfl⟩ : ∃ z a j, i = ix3 z a j := ⟨i 0, i 1, i 2, eq_ix3 i⟩
  exact (block1_apply m c t k a j).trans (block1_apply m c t' k a j).symm

/-- Every point is handed the same bias. -/
theorem block2_same (c : Dev nD) (t t' : Fin cfg0.N) : (iblk m c 2 t : Vec Ideal S96x1 .f32) = iblk m c 2 t' := by
  funext i
  obtain ⟨o, z, rfl⟩ : ∃ z a, i = ix2 z a := ⟨i 0, i 1, eq_ix2 i⟩
  exact (block2_apply m c t o z).trans (block2_apply m c t' o z).symm

/-- The scaled samples of a point's batch. -/
def scaled (c : Dev nD) (t : Fin cfg0.N) : Vec Ideal S96x64 .f32 := k0_pay3 (iblk m c 0 t)

/-- The weighted samples of a point's batch. -/
def weighted (c : Dev nD) (t : Fin cfg0.N) : Vec Ideal S96x192 .f32 :=
  k0_pay4 (iblk m c 0 t) (weights (iblk m c 1 t) 0) (weights (iblk m c 1 t) 1) (weights (iblk m c 1 t) 2) (iblk m c 2 t)

/-- They are those of any other point of the batch. -/
theorem scaled_same (c : Dev nD) (t t' : Fin cfg0.N) (h : batch t = batch t') : scaled m c t = scaled m c t' := by
  unfold scaled; rw [block0_same m c t t' h]

/-- … -/
theorem weighted_same (c : Dev nD) (t t' : Fin cfg0.N) (h : batch t = batch t') : weighted m c t = weighted m c t' := by
  unfold weighted; rw [block0_same m c t t' h, block1_same m c t t', block2_same m c t t']

/-- A batch's first point leaves the scaled samples in the first scratch, … -/
theorem first_scaled (c : Dev nD) (t : Fin cfg0.N) (h0 : t.val % 4 = 0) : (outsAt0 m c t.val t.isLt).2.1 = scaled m c t := by
  rw [outsAt0_A m c t h0]
  dsimp only
  exact scaled_A c (grid0.coords t) (ms0_0 t) (hs0_0 t) (ms0_1 t) (hs0_1 t) (ms0_2 t) (hs0_2 t) (ms0_3 t) (hs0_3 t)
    (ms0_4 t) (hs0_4 t) scM0_0 (Memref.isWhole_whole _) scM0_1 (Memref.isWhole_whole _) (iblk m c 0 t) (iblk m c 1 t) (iblk m c 2 t) (iblk m c 3 t) ((hcond0_0 t).mpr h0)

/-- … the weighted samples in the second, … -/
theorem first_weighted (c : Dev nD) (t : Fin cfg0.N) (h0 : t.val % 4 = 0) : (outsAt0 m c t.val t.isLt).2.2 = weighted m c t := by
  rw [outsAt0_A m c t h0]
  dsimp only
  exact weighted_A c (grid0.coords t) (ms0_0 t) (hs0_0 t) (ms0_1 t) (hs0_1 t) (ms0_2 t) (hs0_2 t) (ms0_3 t) (hs0_3 t)
    (ms0_4 t) (hs0_4 t) scM0_0 (Memref.isWhole_whole _) scM0_1 (Memref.isWhole_whole _) (iblk m c 0 t) (iblk m c 1 t) (iblk m c 2 t) (iblk m c 3 t) ((hcond0_0 t).mpr h0)

/-- … and stores the block they give. -/
theorem first_block (c : Dev nD) (t : Fin cfg0.N) (h0 : t.val % 4 = 0) :
    (outsAt0 m c t.val t.isLt).1 = stored (scaled m c t) (weighted m c t) (iblk m c 3 t) := by
  rw [outsAt0_A m c t h0]
  dsimp only
  exact block_A c (grid0.coords t) (ms0_0 t) (hs0_0 t) (ms0_1 t) (hs0_1 t) (ms0_2 t) (hs0_2 t) (ms0_3 t) (hs0_3 t)
    (ms0_4 t) (hs0_4 t) scM0_0 (Memref.isWhole_whole _) scM0_1 (Memref.isWhole_whole _) (iblk m c 0 t) (iblk m c 1 t) (iblk m c 2 t) (iblk m c 3 t) ((hcond0_0 t).mpr h0)

/-- A later point leaves the scratch as it was, … -/
theorem later_scratch (c : Dev nD) (t : Fin cfg0.N) (h0 : ¬ t.val % 4 = 0) (hk : t.val - 1 < cfg0.N) :
    (outsAt0 m c t.val t.isLt).2 = (outsAt0 m c (t.val - 1) hk).2 := by
  rw [outsAt0_B m c t h0]
  rfl

/-- … and stores the block it gives. -/
theorem later_block (c : Dev nD) (t : Fin cfg0.N) (h0 : ¬ t.val % 4 = 0) (hk : t.val - 1 < cfg0.N) :
    (outsAt0 m c t.val t.isLt).1 = stored (outsAt0 m c (t.val - 1) hk).2.1 (outsAt0 m c (t.val - 1) hk).2.2 (iblk m c 3 t) := by
  rw [outsAt0_B m c t h0]
  dsimp only
  exact block_B c (grid0.coords t) (ms0_0 t) (hs0_0 t) (ms0_1 t) (hs0_1 t) (ms0_2 t) (hs0_2 t) (ms0_3 t) (hs0_3 t)
    (ms0_4 t) (hs0_4 t) scM0_0 (Memref.isWhole_whole _) scM0_1 (Memref.isWhole_whole _) (iblk m c 0 t) (iblk m c 1 t) (iblk m c 2 t) (iblk m c 3 t) (fun h => h0 ((hcond0_0 t).mp h)) _ _

/-- After every point the scratch holds the scaled and the weighted samples of that point's batch. -/
theorem scratch_eq (c : Dev nD) : ∀ (n : ℕ) (hn : n < cfg0.N),
    (outsAt0 m c n hn).2.1 = scaled m c ⟨n, hn⟩ ∧ (outsAt0 m c n hn).2.2 = weighted m c ⟨n, hn⟩ := by
  intro n
  induction n with
  | zero => exact fun hn => ⟨first_scaled m c ⟨0, hn⟩ rfl, first_weighted m c ⟨0, hn⟩ rfl⟩
  | succ k ih =>
    intro hn
    by_cases h0 : (k + 1) % 4 = 0
    · exact ⟨first_scaled m c ⟨k + 1, hn⟩ h0, first_weighted m c ⟨k + 1, hn⟩ h0⟩
    · have hk : k < cfg0.N := by omega
      have hb : batch ⟨k, hk⟩ = batch ⟨k + 1, hn⟩ := Fin.ext (by show k / 4 = (k + 1) / 4; omega)
      obtain ⟨e1, e2⟩ := ih hk
      have e := later_scratch m c ⟨k + 1, hn⟩ h0 hk
      exact ⟨(congrArg Prod.fst e).trans (e1.trans (scaled_same m c _ _ hb)), (congrArg Prod.snd e).trans (e2.trans (weighted_same m c _ _ hb))⟩

/-- What a point stores: the stored block of its own samples, weights, bias and vectors. -/
theorem out_eq (c : Dev nD) (t : Fin cfg0.N) :
    (outsAt0 m c t.val t.isLt).1 = stored (scaled m c t) (weighted m c t) (iblk m c 3 t) := by
  by_cases h0 : t.val % 4 = 0
  · exact first_block m c t h0
  · have hk : t.val - 1 < cfg0.N := lt_of_le_of_lt (Nat.sub_le _ _) t.isLt
    have hb : batch ⟨t.val - 1, hk⟩ = batch t := Fin.ext (by show (t.val - 1) / 4 = t.val / 4; omega)
    obtain ⟨e1, e2⟩ := scratch_eq m c (t.val - 1) hk
    refine (later_block m c t h0 hk).trans ?_
    rw [← scaled_same m c _ _ hb, ← weighted_same m c _ _ hb, e1, e2]

/-- The array the run leaves: at every batch, output channel and vector the three best samples, in terms of the four arrays the
    kernel is handed. -/
def result (c : Dev nD) : Buf (Elt Ideal) ((c : Thread nD τ).loc main_v22) := fun i =>
  best3 (fun k o => V m c main_v19 (ix3 k (i 1) o)) (V m c main_v20 (ix2 (i 1) 0)) (fun j a => V m c main_v18 (ix3 (i 0) a j))
    (fun a => V m c main_v21 (ix3 (i 0) a (i 2)))

/-- What a point writes back is its block of that array. -/
theorem flushed_eq (c : Dev nD) (t : Fin cfg0.N) :
    (dats m 0 c).flushed 4 t = ((cfg0.win 4).blk t).view.read (Elt Ideal) (result m c) := by
  show (cfg0.win 4).cut (grid0.coords t) ((dats m 0 c).after 4 t) = _
  rw [after0_4, out_eq]
  funext y
  obtain ⟨z, o, n, rfl⟩ : ∃ z o n, y = ix3 z o n := ⟨y 0, y 1, y 2, eq_ix3 y⟩
  obtain ⟨-, -, -, -, e0, e1, e2⟩ := index_facts t
  have hy : ((cfg0.win 4).blk t).view.emb (ix3 z o n) = ix3 (batch t) o (place t n) := by
    funext d
    apply Fin.ext
    match d with
    | ⟨0, _⟩ => show win0_4.index t (0 : Fin 3) * 1 + 1 * z.val = t.val / 4; omega
    | ⟨1, _⟩ => show win0_4.index t (1 : Fin 3) * 96 + 1 * o.val = o.val; omega
    | ⟨2, _⟩ => show win0_4.index t (2 : Fin 3) * 12544 + 1 * n.val = 12544 * (t.val % 4) + n.val; omega
  show stored (scaled m c t) (weighted m c t) (iblk m c 3 t) (ix3 z o n) = result m c (((cfg0.win 4).blk t).view.emb (ix3 z o n))
  rw [hy]
  unfold scaled weighted
  refine (stored_apply (iblk m c 0 t) (iblk m c 1 t) (iblk m c 2 t) (iblk m c 3 t) z o n).trans ?_
  unfold result samples vectors
  simp only [block0_apply, block1_apply, block2_apply, block3_apply]
  rfl

/-- An index of the array is in a point's block when each coordinate is in the block's range on its axis. -/
theorem mem_block (t : Fin cfg0.N) (i : S4x96x50176.Idx) :
    i ∈ ((cfg0.win 4).blk t).view.set ↔
      ∀ a : Fin 3, win0_4.index t a * S1x96x12544.size a ≤ (i a).val ∧ (i a).val < win0_4.index t a * S1x96x12544.size a + S1x96x12544.size a := by
  show i ∈ ((View.whole main_v22).slice (win0_4.rect t)).set ↔ _
  rw [View.set_slice_whole, Rect.mem_set_unit]
  exact Iff.rfl

/-- The sixteen blocks fill the array. -/
theorem covered (i : S4x96x50176.Idx) : ∃ t : Fin cfg0.N, (cfg0.win 4).flush t = true ∧ i ∈ ((cfg0.win 4).blk t).view.set := by
  have h0 : (i 0).val < 4 := (i 0).isLt
  have h1 : (i 1).val < 96 := (i 1).isLt
  have h2 : (i 2).val < 50176 := (i 2).isLt
  have ht : 4 * (i 0).val + (i 2).val / 12544 < cfg0.N := lt_of_lt_of_eq (by omega) (show cfg0.N = 16 from N_0).symm
  obtain ⟨-, -, -, -, e0, e1, e2⟩ := index_facts ⟨_, ht⟩
  refine ⟨⟨_, ht⟩, (by decide +kernel : ∀ t : Fin grid0.N, win0_4.flush t = true) _, ?_⟩
  rw [mem_block]
  intro a
  dsimp only at e0 e1 e2
  match a with
  | ⟨0, _⟩ =>
    show win0_4.index ⟨_, ht⟩ (0 : Fin 3) * 1 ≤ (i 0).val ∧ (i 0).val < win0_4.index ⟨_, ht⟩ (0 : Fin 3) * 1 + 1; omega
  | ⟨1, _⟩ =>
    show win0_4.index ⟨_, ht⟩ (1 : Fin 3) * 96 ≤ (i 1).val ∧ (i 1).val < win0_4.index ⟨_, ht⟩ (1 : Fin 3) * 96 + 96; omega
  | ⟨2, _⟩ =>
    show win0_4.index ⟨_, ht⟩ (2 : Fin 3) * 12544 ≤ (i 2).val ∧ (i 2).val < win0_4.index ⟨_, ht⟩ (2 : Fin 3) * 12544 + 12544; omega

/-- THE ARRAY after the run. -/
theorem array_eq (c : Dev nD) : (dats m 0 c).arrAt 4 cfg0.N = result m c :=
  (dats m 0 c).arrAt_eq_of_cover 4 _ (fun t _ => flushed_eq m c t) covered

end Cert.Proof

end

end
-- ==== Proof.HostPrefix.lean ====
/- The arrays the kernel is handed, and the array it returns, entry by entry in terms of the program's arguments: the samples are
   the image at eight rows and eight columns, the weights are permuted, the image and the result are read as rows of vectors. -/
module

public import proofs.«01_k».proof.Proof.KernelRun
public import Idealize.ShloMosaic.Lib.StableHlo.RunRead

@[expose] public section

set_option maxRecDepth 16384

noncomputable section

namespace Cert.Proof

open Idealize.ShloMosaic Idealize.ShloMosaic.ValueIdx Idealize.ShloMosaic.TcCoe
open Idealize.SL Idealize.SL.Sem
open Cert.KernelIdeal Cert.KernelIdeal.Gen
open scoped BigOperators

/-! ## The samples -/

/-- Piece `i` of the eight sampled rows. -/
def rowPiece (x : Vec Ideal S4x96x224x224 .f32) : Fin 8 → Vec Ideal S4x96x1x224 .f32 :=
  ![extractStridedSlice S4x96x1x224 ![0, 0, 0, 0] x Facts₀.slices_S4x96x224x224_S4x96x1x224_0_0_0_0,
    extractStridedSlice S4x96x1x224 ![0, 0, 32, 0] x Facts₀.slices_S4x96x224x224_S4x96x1x224_0_0_32_0,
    extractStridedSlice S4x96x1x224 ![0, 0, 64, 0] x Facts₀.slices_S4x96x224x224_S4x96x1x224_0_0_64_0,
    extractStridedSlice S4x96x1x224 ![0, 0, 96, 0] x Facts₀.slices_S4x96x224x224_S4x96x1x224_0_0_96_0,
    extractStridedSlice S4x96x1x224 ![0, 0, 127, 0] x Facts₀.slices_S4x96x224x224_S4x96x1x224_0_0_127_0,
    extractStridedSlice S4x96x1x224 ![0, 0, 159, 0] x Facts₀.slices_S4x96x224x224_S4x96x1x224_0_0_159_0,
    extractStridedSlice S4x96x1x224 ![0, 0, 191, 0] x Facts₀.slices_S4x96x224x224_S4x96x1x224_0_0_191_0,
    extractStridedSlice S4x96x1x224 ![0, 0, 223, 0] x Facts₀.slices_S4x96x224x224_S4x96x1x224_0_0_223_0]

/-- Piece `j` of the eight sampled columns. -/
def colPiece (x : Vec Ideal S4x96x8x224 .f32) : Fin 8 → Vec Ideal S4x96x8x1 .f32 :=
  ![extractStridedSlice S4x96x8x1 ![0, 0, 0, 0] x Facts₀.slices_S4x96x8x224_S4x96x8x1_0_0_0_0,
    extractStridedSlice S4x96x8x1 ![0, 0, 0, 32] x Facts₀.slices_S4x96x8x224_S4x96x8x1_0_0_0_32,
    extractStridedSlice S4x96x8x1 ![0, 0, 0, 64] x Facts₀.slices_S4x96x8x224_S4x96x8x1_0_0_0_64,
    extractStridedSlice S4x96x8x1 ![0, 0, 0, 96] x Facts₀.slices_S4x96x8x224_S4x96x8x1_0_0_0_96,
    extractStridedSlice S4x96x8x1 ![0, 0, 0, 127] x Facts₀.slices_S4x96x8x224_S4x96x8x1_0_0_0_127,
    extractStridedSlice S4x96x8x1 ![0, 0, 0, 159] x Facts₀.slices_S4x96x8x224_S4x96x8x1_0_0_0_159,
    extractStridedSlice S4x96x8x1 ![0, 0, 0, 191] x Facts₀.slices_S4x96x8x224_S4x96x8x1_0_0_0_191,
    extractStridedSlice S4x96x8x1 ![0, 0, 0, 223] x Facts₀.slices_S4x96x8x224_S4x96x8x1_0_0_0_223]

/-- The image at the eight sampled rows. -/
def rowsOf (x : Vec Ideal S4x96x224x224 .f32) : Vec Ideal S4x96x8x224 .f32 :=
  concatenate S4x96x8x224 2
    [⟨S4x96x1x224, rowPiece x 0⟩, ⟨S4x96x1x224, rowPiece x 1⟩, ⟨S4x96x1x224, rowPiece x 2⟩, ⟨S4x96x1x224, rowPiece x 3⟩, ⟨S4x96x1x224, rowPiece x 4⟩, ⟨S4x96x1x224, rowPiece x 5⟩, ⟨S4x96x1x224, rowPiece x 6⟩, ⟨S4x96x1x224, rowPiece x 7⟩]
    Facts₀.concatenates_S4x96x1x224_S4x96x1x224_S4x96x1x224_S4x96x1x224_S4x96x1x224_S4x96x1x224_S4x96x1x224_S4x96x1x224_S4x96x8x224_d2

/-- An array at the eight sampled columns. -/
def colsOf (x : Vec Ideal S4x96x8x224 .f32) : Vec Ideal S4x96x8x8 .f32 :=
  concatenate S4x96x8x8 3
    [⟨S4x96x8x1, colPiece x 0⟩, ⟨S4x96x8x1, colPiece x 1⟩, ⟨S4x96x8x1, colPiece x 2⟩, ⟨S4x96x8x1, colPiece x 3⟩, ⟨S4x96x8x1, colPiece x 4⟩, ⟨S4x96x8x1, colPiece x 5⟩, ⟨S4x96x8x1, colPiece x 6⟩, ⟨S4x96x8x1, colPiece x 7⟩]
    Facts₀.concatenates_S4x96x8x1_S4x96x8x1_S4x96x8x1_S4x96x8x1_S4x96x8x1_S4x96x8x1_S4x96x8x1_S4x96x8x1_S4x96x8x8_d3

/-- A one-row slice of the image is the image at that row. -/
theorem slice_row (x : Vec Ideal S4x96x224x224 .f32) (r : Fin 224) (h : S4x96x224x224.Slices ![0, 0, r.val, 0] S4x96x1x224) (b : Fin 4)
    (a : Fin 96) (j : Fin 224) : extractStridedSlice S4x96x1x224 ![0, 0, r.val, 0] x h (ix4 b a 0 j) = x (ix4 b a r j) := by
  refine extractStridedSlice_apply _ x h (ix4 b a 0 j) (ix4 b a r j) fun d => ?_
  match d with
  | ⟨0, _⟩ => exact (Nat.zero_add _).symm
  | ⟨1, _⟩ => exact (Nat.zero_add _).symm
  | ⟨2, _⟩ => rfl
  | ⟨3, _⟩ => exact (Nat.zero_add _).symm

/-- A one-column slice of an array is the array at that column. -/
theorem slice_col (x : Vec Ideal S4x96x8x224 .f32) (r : Fin 224) (h : S4x96x8x224.Slices ![0, 0, 0, r.val] S4x96x8x1) (b : Fin 4)
    (a : Fin 96) (i : Fin 8) : extractStridedSlice S4x96x8x1 ![0, 0, 0, r.val] x h (ix4 b a i 0) = x (ix4 b a i r) := by
  refine extractStridedSlice_apply _ x h (ix4 b a i 0) (ix4 b a i r) fun d => ?_
  match d with
  | ⟨0, _⟩ => exact (Nat.zero_add _).symm
  | ⟨1, _⟩ => exact (Nat.zero_add _).symm
  | ⟨2, _⟩ => exact (Nat.zero_add _).symm
  | ⟨3, _⟩ => rfl

/-- A row piece is the image at its row. -/
theorem rowPiece_apply (x : Vec Ideal S4x96x224x224 .f32) (i : Fin 8) (b : Fin 4) (a : Fin 96) (j : Fin 224) :
    rowPiece x i (ix4 b a 0 j) = x (ix4 b a (rowOf i) j) := by
  match i with
  | ⟨0, _⟩ => exact slice_row x 0 Facts₀.slices_S4x96x224x224_S4x96x1x224_0_0_0_0 b a j
  | ⟨1, _⟩ => exact slice_row x 32 Facts₀.slices_S4x96x224x224_S4x96x1x224_0_0_32_0 b a j
  | ⟨2, _⟩ => exact slice_row x 64 Facts₀.slices_S4x96x224x224_S4x96x1x224_0_0_64_0 b a j
  | ⟨3, _⟩ => exact slice_row x 96 Facts₀.slices_S4x96x224x224_S4x96x1x224_0_0_96_0 b a j
  | ⟨4, _⟩ => exact slice_row x 127 Facts₀.slices_S4x96x224x224_S4x96x1x224_0_0_127_0 b a j
  | ⟨5, _⟩ => exact slice_row x 159 Facts₀.slices_S4x96x224x224_S4x96x1x224_0_0_159_0 b a j
  | ⟨6, _⟩ => exact slice_row x 191 Facts₀.slices_S4x96x224x224_S4x96x1x224_0_0_191_0 b a j
  | ⟨7, _⟩ => exact slice_row x 223 Facts₀.slices_S4x96x224x224_S4x96x1x224_0_0_223_0 b a j

/-- A column piece is the array at its column. -/
theorem colPiece_apply (x : Vec Ideal S4x96x8x224 .f32) (j : Fin 8) (b : Fin 4) (a : Fin 96) (i : Fin 8) :
    colPiece x j (ix4 b a i 0) = x (ix4 b a i (rowOf j)) := by
  match j with
  | ⟨0, _⟩ => exact slice_col x 0 Facts₀.slices_S4x96x8x224_S4x96x8x1_0_0_0_0 b a i
  | ⟨1, _⟩ => exact slice_col x 32 Facts₀.slices_S4x96x8x224_S4x96x8x1_0_0_0_32 b a i
  | ⟨2, _⟩ => exact slice_col x 64 Facts₀.slices_S4x96x8x224_S4x96x8x1_0_0_0_64 b a i
  | ⟨3, _⟩ => exact slice_col x 96 Facts₀.slices_S4x96x8x224_S4x96x8x1_0_0_0_96 b a i
  | ⟨4, _⟩ => exact slice_col x 127 Facts₀.slices_S4x96x8x224_S4x96x8x1_0_0_0_127 b a i
  | ⟨5, _⟩ => exact slice_col x 159 Facts₀.slices_S4x96x8x224_S4x96x8x1_0_0_0_159 b a i
  | ⟨6, _⟩ => exact slice_col x 191 Facts₀.slices_S4x96x8x224_S4x96x8x1_0_0_0_191 b a i
  | ⟨7, _⟩ => exact slice_col x 223 Facts₀.slices_S4x96x8x224_S4x96x8x1_0_0_0_223 b a i

/-- The image at the eight rows, entry by entry. -/
theorem rowsOf_apply (x : Vec Ideal S4x96x224x224 .f32) (b : Fin 4) (a : Fin 96) (i : Fin 8) (j : Fin 224) :
    rowsOf x (ix4 b a i j) = x (ix4 b a (rowOf i) j) := by
  refine (concatenate_ofFn_unit_apply (t := S4x96x8x224) (s₁ := S4x96x1x224) 2 (rowPiece x)
    Facts₀.concatenates_S4x96x1x224_S4x96x1x224_S4x96x1x224_S4x96x1x224_S4x96x1x224_S4x96x1x224_S4x96x1x224_S4x96x1x224_S4x96x8x224_d2
    rfl rfl (ix4 b a i j) i rfl (ix4 b a 0 j) fun d hd => ?_).trans (rowPiece_apply x i b a j)
  match d with
  | ⟨0, _⟩ => rfl
  | ⟨1, _⟩ => rfl
  | ⟨2, _⟩ => exact absurd rfl hd
  | ⟨3, _⟩ => rfl

/-- An array at the eight columns, entry by entry. -/
theorem colsOf_apply (x : Vec Ideal S4x96x8x224 .f32) (b : Fin 4) (a : Fin 96) (i j : Fin 8) :
    colsOf x (ix4 b a i j) = x (ix4 b a i (rowOf j)) := by
  refine (concatenate_ofFn_unit_apply (t := S4x96x8x8) (s₁ := S4x96x8x1) 3 (colPiece x)
    Facts₀.concatenates_S4x96x8x1_S4x96x8x1_S4x96x8x1_S4x96x8x1_S4x96x8x1_S4x96x8x1_S4x96x8x1_S4x96x8x1_S4x96x8x8_d3
    rfl rfl (ix4 b a i j) j rfl (ix4 b a i 0) fun d hd => ?_).trans (colPiece_apply x j b a i)
  match d with
  | ⟨0, _⟩ => rfl
  | ⟨1, _⟩ => rfl
  | ⟨2, _⟩ => rfl
  | ⟨3, _⟩ => exact absurd rfl hd

/-! ## The four arrays handed to the kernel -/

variable (m : (ℓ : Loc nD τ sig) → Buf (Elt Ideal) ℓ)

/-- The samples' array is the image at the sampled rows and columns, … -/
theorem samples_eq (c : Dev nD) : V m c main_v18
    = shapeCast S4x96x64 (colsOf (rowsOf (m ((c : Thread nD τ).loc main_arg0)))) Facts₀.shapeCasts_S4x96x8x8_S4x96x64 := by
  unfold V V0
  simp only [hostOps0, List.flatten_cons, List.flatten_nil, List.append_nil]
  after_reads_simp
  rfl

/-- … the weights' array the weights, permuted, … -/
theorem weights_eq (c : Dev nD) : V m c main_v19
    = transpose S3x96x96 [2, 0, 1] (m ((c : Thread nD τ).loc main_arg1)) Facts₀.transposes_S96x96x3_S3x96x96_2_0_1 := by
  unfold V V0
  simp only [hostOps0, List.flatten_cons, List.flatten_nil, List.append_nil]
  after_reads_simp

/-- … the bias's array the bias as a column, … -/
theorem bias_eq (c : Dev nD) : V m c main_v20
    = shapeCast S96x1 (m ((c : Thread nD τ).loc main_arg2)) Facts₀.shapeCasts_S96_S96x1 := by
  unfold V V0
  simp only [hostOps0, List.flatten_cons, List.flatten_nil, List.append_nil]
  after_reads_simp
  rfl

/-- … and the vectors' array the image with its rows one after another. -/
theorem vectors_eq (c : Dev nD) : V m c main_v21
    = shapeCast S4x96x50176 (m ((c : Thread nD τ).loc main_arg0)) Facts₀.shapeCasts_S4x96x224x224_S4x96x50176 := by
  unfold V V0
  simp only [hostOps0, List.flatten_cons, List.flatten_nil, List.append_nil]
  after_reads_simp
  rfl

/-- Where row `y`, column `x` of an image lies among its vectors. -/
def flat (y x : Fin 224) : Fin 50176 := ⟨224 * y.val + x.val, by have := y.isLt; have := x.isLt; omega⟩

/-- The samples, entry by entry. -/
theorem samples_apply (c : Dev nD) (b : Fin 4) (a : Fin 96) (j : Fin 64) :
    V m c main_v18 (ix3 b a j) = m ((c : Thread nD τ).loc main_arg0) (ix4 b a (rowOf (hi j)) (rowOf (lo j))) := by
  refine (congrFun (samples_eq m c) (ix3 b a j)).trans ?_
  refine (shapeCast_apply _ _ (ix3 b a j) (ix4 b a (hi j) (lo j)) ?_).trans ?_
  · rw [Shape.rowMajor_val_four, Shape.rowMajor_val_three]
    show ((b.val * 96 + a.val) * 8 + j.val / 8) * 8 + j.val % 8 = (b.val * 96 + a.val) * 64 + j.val
    omega
  · exact (colsOf_apply _ b a (hi j) (lo j)).trans (rowsOf_apply _ b a (hi j) (rowOf (lo j)))

/-- The weights, entry by entry. -/
theorem weights_apply (c : Dev nD) (k : Fin 3) (o i : Fin 96) :
    V m c main_v19 (ix3 k o i) = m ((c : Thread nD τ).loc main_arg1) (ix3 o i k) := by
  refine (congrFun (weights_eq m c) (ix3 k o i)).trans ?_
  refine transpose_apply _ _ _ (ix3 k o i) (ix3 o i k) fun d => ?_
  match d with
  | ⟨0, _⟩ => rfl
  | ⟨1, _⟩ => rfl
  | ⟨2, _⟩ => rfl

/-- The bias, entry by entry. -/
theorem bias_apply (c : Dev nD) (o : Fin 96) : V m c main_v20 (ix2 o 0) = m ((c : Thread nD τ).loc main_arg2) (ix1 o) := by
  refine (congrFun (bias_eq m c) (ix2 o 0)).trans ?_
  refine shapeCast_apply _ _ (ix2 o 0) (ix1 o) ?_
  rw [Shape.rowMajor_val_one, Shape.rowMajor_val_two]
  show o.val = o.val * 1 + 0
  omega

/-- The vectors, entry by entry. -/
theorem vectors_apply (c : Dev nD) (b : Fin 4) (a : Fin 96) (y x : Fin 224) :
    V m c main_v21 (ix3 b a (flat y x)) = m ((c : Thread nD τ).loc main_arg0) (ix4 b a y x) := by
  refine (congrFun (vectors_eq m c) (ix3 b a (flat y x))).trans ?_
  refine shapeCast_apply _ _ (ix3 b a (flat y x)) (ix4 b a y x) ?_
  rw [Shape.rowMajor_val_four, Shape.rowMajor_val_three]
  show ((b.val * 96 + a.val) * 224 + y.val) * 224 + x.val = (b.val * 96 + a.val) * 50176 + (224 * y.val + x.val)
  omega

/-! ## The array returned -/

/-- The images, the weights and the bias a core is launched with. -/
def images (c : Dev nD) : Fin 4 → Fin 96 → Fin 224 → Fin 224 → EReal := fun b a y x => m ((c : Thread nD τ).loc main_arg0) (ix4 b a y x)
@[inherit_doc images]
def taps (c : Dev nD) : Fin 96 → Fin 96 → Fin 3 → EReal := fun o i k => m ((c : Thread nD τ).loc main_arg1) (ix3 o i k)
@[inherit_doc images]
def biases (c : Dev nD) : Fin 96 → EReal := fun o => m ((c : Thread nD τ).loc main_arg2) (ix1 o)

/-- What the kernel leaves at a batch, an output channel, a row and a column. -/
theorem result_apply (c : Dev nD) (b : Fin 4) (o : Fin 96) (y x : Fin 224) :
    result m c (ix3 b o (flat y x)) = answer (images m c) (taps m c) (biases m c) b o y x := by
  have e1 : (fun (k : Fin 3) (i : Fin 96) => V m c main_v19 (ix3 k o i)) = fun k i => taps m c o i k :=
    funext fun k => funext fun i => weights_apply m c k o i
  have e2 : V m c main_v20 (ix2 o 0) = biases m c o := bias_apply m c o
  have e3 : (fun (j : Fin 64) (a : Fin 96) => V m c main_v18 (ix3 b a j)) = fun j a => images m c b a (rowOf (hi j)) (rowOf (lo j)) :=
    funext fun j => funext fun a => samples_apply m c b a j
  have e4 : (fun (a : Fin 96) => V m c main_v21 (ix3 b a (flat y x))) = fun a => images m c b a y x :=
    funext fun a => vectors_apply m c b a y x
  exact congr (congr (congr (congrArg best3 e1) e2) e3) e4

/-- The returned array: the kernel's, its vectors put back in rows. -/
def returned (c : Dev nD) : Buf (Elt Ideal) ((c : Thread nD τ).loc main_v23) := fun i =>
  answer (images m c) (taps m c) (biases m c) (i 0) (i 1) (i 2) (i 3)

/-- The five arrays of the pipeline are distinct. -/
theorem arrays_distinct : Function.Injective (Pipeline.arrRef spec0) := by
  intro w w' h
  revert h
  revert w w'
  decide

/-- What the last host operation leaves in the returned buffer. -/
theorem tail_eq (c : Dev nD) : Pipeline.afterTail₀ cfgs (dats m) 0 (V0 m) [hostOps1] c main_v23 = returned m c := by
  have e : Pipeline.afterTail₀ cfgs (dats m) 0 (V0 m) [hostOps1] c main_v23
      = shapeCast S4x96x224x224 (result m c) Facts₀.shapeCasts_S4x96x50176_S4x96x224x224 := by
    unfold Pipeline.afterTail₀
    simp only [hostOps1, List.flatten_cons, List.flatten_nil, List.append_nil]
    after_reads_simp
    refine congrArg (fun z => shapeCast S4x96x224x224 z Facts₀.shapeCasts_S4x96x50176_S4x96x224x224) ?_
    exact (Pipeline.withArrays_arr spec0 arrays_distinct c (V0 m c) (fun w => (dats m 0 c).arrAt w cfg0.N) 4).trans (array_eq m c)
  refine e.trans (funext fun i => ?_)
  obtain ⟨b, o, y, x, rfl⟩ : ∃ b o y x, i = ix4 b o y x := ⟨i 0, i 1, i 2, i 3, eq_ix4 i⟩
  refine (shapeCast_apply _ _ (ix4 b o y x) (ix3 b o (flat y x)) ?_).trans (result_apply m c b o y x)
  rw [Shape.rowMajor_val_four, Shape.rowMajor_val_three]
  show (b.val * 96 + o.val) * 50176 + (224 * y.val + x.val) = ((b.val * 96 + o.val) * 224 + y.val) * 224 + x.val
  omega

/-- THE KERNEL'S RUN: every run ends with the answer in the returned buffer and the arguments unchanged. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v23) = returned m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v23 (Pipeline.mem_restRefs_of main_v23 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.Proof

end

end
-- ==== Proof.RefIndices.lean ====
/- Which rows and columns the reference samples: eight points evenly spaced from 0 to 223, each rounded to the nearest integer, and
   the samples it reads at every pair of them. -/
module

public import proofs.«01_k».proof.Proof.Spec
public import proofs.«01_k».proof.Proof.Gen.ReferenceIdeal.Read

@[expose] public section

set_option maxRecDepth 16384

noncomputable section

namespace Cert.Proof

open Idealize.ShloMosaic Idealize.ShloMosaic.ValueIdx
open Cert.ReferenceIdeal Cert.ReferenceIdeal.Gen Cert.ReferenceIdeal.Read
open scoped BigOperators

/-- The number `7`, by its bits. -/
theorem ofBits_seven : Ideal.ofBits .f32 0x40E00000#32 = ((7 : ℝ) : EReal) := by
  simp [Ideal.ofBits, Ideal.ieee, -EReal.coe_mul]; norm_num

/-- The number `1`, by its bits. -/
theorem ofBits_one : Ideal.ofBits .f32 0x3F800000#32 = ((1 : ℝ) : EReal) := by
  simp [Ideal.ofBits, Ideal.ieee, -EReal.coe_mul]; norm_num

/-- A real less than half away from the integer `n` rounds to `n`. -/
theorem roundHalfEven_near (r : ℝ) (n : ℤ) (h₁ : (n : ℝ) - 1 / 2 < r) (h₂ : r < n + 1 / 2) : Ideal.roundHalfEven r = n := by
  unfold Ideal.roundHalfEven
  by_cases hr : (n : ℝ) ≤ r
  · have hf : ⌊r⌋ = n := Int.floor_eq_iff.2 ⟨hr, by linarith⟩
    simp only [hf]
    rw [if_pos (by linarith)]
  · have hf : ⌊r⌋ = n - 1 := Int.floor_eq_iff.2 ⟨by push_cast; linarith, by push_cast; linarith⟩
    simp only [hf]
    push_cast
    rw [if_neg (by linarith), if_pos (by linarith)]
    ring

/-- Rounding a real near a small natural number and reading it as a 32-bit integer gives that number. -/
theorem rounded_word (r : ℝ) (n : ℕ) (hn : n < 2 ^ 31) (h₁ : (n : ℝ) - 1 / 2 < r) (h₂ : r < n + 1 / 2) :
    Ideal.fptosi 32 (Ideal.liftRound Ideal.roundHalfEven (r : EReal)) = BitVec.ofNat 32 n := by
  rw [Ideal.liftRound_coe, roundHalfEven_near r (n : ℤ) (by exact_mod_cast h₁) (by exact_mod_cast h₂), Ideal.fptosi,
    Ideal.toIntClamped_coe]
  have h0 : (0 : ℝ) ≤ (((n : ℤ) : ℝ)) := by positivity
  rw [if_pos h0, Int.floor_intCast, min_eq_right, max_eq_right]
  · exact BitVec.ofInt_natCast 32 n
  · have : (0 : ℤ) ≤ (n : ℤ) := Int.natCast_nonneg n
    norm_num
  · norm_num; omega

/-- The first seven points before rounding: `223 · i / 7`. -/
theorem spaced (i : Fin 7) : val_main_call0_v15 (F := Ideal) (ix1 i) = ((223 * ((i.val : ℝ) / 7) : ℝ) : EReal) := by
  have h6 : val_main_call0_v6 (F := Ideal) (ix1 i) = (((i.val : ℝ) / 7 : ℝ) : EReal) := by
    rw [val_main_call0_v6_apply, val_main_call0_v5_apply, val_main_call0_cst_0_apply, Ideal.hostDivf_def]
    show Ideal.div (((BitVec.ofNat 32 i.val).toInt : ℝ) : EReal) (Ideal.ofBits .f32 0x40E00000#32) = _
    rw [ofBits_seven, Ideal.div_coe (by norm_num)]
    have : (BitVec.ofNat 32 i.val).toInt = (i.val : ℤ) := by fin_cases i <;> rfl
    rw [this, ← EReal.coe_mul]
    congr 1
    push_cast
    ring
  have h10 : val_main_call0_v10 (F := Ideal) (ix1 i) = ((0 : ℝ) : EReal) := by
    rw [val_main_call0_v10_apply]
    show (((0#32).toInt : ℝ) : EReal) = _
    norm_num
  have h13 : val_main_call0_v13 (F := Ideal) (ix1 i) = ((223 : ℝ) : EReal) := by
    rw [val_main_call0_v13_apply]
    show (((223#32).toInt : ℝ) : EReal) = _
    rw [show (223#32).toInt = 223 from rfl]
    norm_num
  rw [val_main_call0_v15_apply, val_main_call0_v11_apply, val_main_call0_v14_apply, h10, h13, h6, val_main_call0_v9_apply, h6,
    val_main_call0_v8_apply, val_main_call0_cst_1_apply]
  show ((0 : ℝ) : EReal) * (Ideal.ofBits .f32 0x3F800000#32 - _) + _ = _
  rw [ofBits_one, ← EReal.coe_sub, ← EReal.coe_mul]
  show _ + ((223 : ℝ) : EReal) * _ = _
  rw [← EReal.coe_mul, ← EReal.coe_add]
  congr 1
  ring

/-- The eight points before rounding are the seven and `223`. -/
theorem points_apply (i : Fin 8) : val_main_v0 (F := Ideal) (ix1 i) = ((223 * ((i.val : ℝ) / 7) : ℝ) : EReal) := by
  unfold val_main_v0
  by_cases hi : i.val < 7
  · rw [← spaced ⟨i.val, hi⟩]
    exact concatenate_apply_piece 0 [⟨S7, val_main_call0_v15 (F := Ideal)⟩, ⟨S1, val_main_call0_v16 (F := Ideal)⟩]
      concatenates_S7_S1_S8_d0 (ix1 i) 0 (by simp) S7 (val_main_call0_v15 (F := Ideal)) rfl rfl 0 rfl (ix1 ⟨i.val, hi⟩)
      (fun b hb => absurd (Subsingleton.elim _ _) hb) (Nat.zero_add _)
  · have h7 : i = 7 := Fin.ext (by have := i.isLt; show i.val = 7; omega)
    subst h7
    refine (concatenate_apply_piece 0 [⟨S7, val_main_call0_v15 (F := Ideal)⟩, ⟨S1, val_main_call0_v16 (F := Ideal)⟩]
      concatenates_S7_S1_S8_d0 (ix1 7) 1 (by simp) S1 (val_main_call0_v16 (F := Ideal)) rfl rfl 7 rfl (ix1 0)
      (fun b hb => absurd (Subsingleton.elim _ _) hb) rfl).trans ?_
    rw [val_main_call0_v16_apply]
    show (((223#32).toInt : ℝ) : EReal) = ((223 * (((7 : ℕ) : ℝ) / 7) : ℝ) : EReal)
    rw [show (223#32).toInt = 223 from rfl]
    norm_num

/-- The eight sampled rows, as words. -/
theorem rows_apply (i : Fin 8) : val_main_v2 (F := Ideal) (ix1 i) = BitVec.ofNat 32 (rowOf i).val := by
  show Ideal.fptosi 32 (Ideal.liftRound Ideal.roundHalfEven (val_main_v0 (F := Ideal) (ix1 i))) = _
  rw [points_apply]
  refine rounded_word _ _ (lt_trans (rowOf i).isLt (by norm_num)) ?_ ?_ <;> fin_cases i <;> norm_num [rowOf]

/-- The eight sampled columns, as words: the same numbers. -/
theorem cols_apply (i : Fin 8) : val_main_v5 (F := Ideal) (ix1 i) = BitVec.ofNat 32 (rowOf i).val := rows_apply i

/-- A sampled row is not negative, so the reading from the far end for negative indices does not apply. -/
theorem keep_row (i : Fin 8) (z : BitVec 32) : Scalar.select (IntOp.cmpi .slt (BitVec.ofNat 32 (rowOf i).val) 0#32) z
    (BitVec.ofNat 32 (rowOf i).val) = BitVec.ofNat 32 (rowOf i).val := by
  fin_cases i <;> rfl

/-- At grid point `(i, j)` the row index is the `i`-th sampled row … -/
theorem row_index (i j : Fin 8) : val_main_v12 (F := Ideal) (ix2 i j) = BitVec.ofNat 32 (rowOf i).val := by
  have h6 : val_main_v6 (F := Ideal) (ix2 i j) = BitVec.ofNat 32 (rowOf i).val := by
    rw [val_main_v6_apply]; exact (congrArg _ (eq_ix1 _)).trans (rows_apply i)
  rw [val_main_v12_apply, val_main_v9_apply, val_main_v8_apply, val_main_c_3_apply, h6]
  exact keep_row i _

/-- … and the column index the `j`-th sampled column. -/
theorem col_index (i j : Fin 8) : val_main_v17 (F := Ideal) (ix2 i j) = BitVec.ofNat 32 (rowOf j).val := by
  have h7 : val_main_v7 (F := Ideal) (ix2 i j) = BitVec.ofNat 32 (rowOf j).val := by
    rw [val_main_v7_apply]; exact (congrArg _ (eq_ix1 _)).trans (cols_apply j)
  rw [val_main_v17_apply, val_main_v14_apply, val_main_v13_apply, val_main_c_5_apply, h7]
  exact keep_row j _

/-- The index pair at grid point `(i, j)`: the row first … -/
theorem pair_row (i j : Fin 8) : val_main_v20 (F := Ideal) (ix3 i j 0) = BitVec.ofNat 32 (rowOf i).val := by
  unfold val_main_v20
  refine (concatenate_apply_piece 2 [⟨S8x8x1, val_main_v18 (F := Ideal)⟩, ⟨S8x8x1, val_main_v19 (F := Ideal)⟩]
      concatenates_S8x8x1_S8x8x1_S8x8x2_d2 (ix3 i j 0) 0 (by simp) S8x8x1 (val_main_v18 (F := Ideal)) rfl rfl 0 rfl (ix3 i j 0)
      (fun b hb => ?_) rfl).trans ?_
  · match b with
    | ⟨0, _⟩ => rfl
    | ⟨1, _⟩ => rfl
    | ⟨2, _⟩ => exact absurd rfl hb
  · rw [val_main_v18_apply]; exact (congrArg _ (eq_ix2 _)).trans (row_index i j)

/-- … and then the column. -/
theorem pair_col (i j : Fin 8) : val_main_v20 (F := Ideal) (ix3 i j 1) = BitVec.ofNat 32 (rowOf j).val := by
  unfold val_main_v20
  refine (concatenate_apply_piece 2 [⟨S8x8x1, val_main_v18 (F := Ideal)⟩, ⟨S8x8x1, val_main_v19 (F := Ideal)⟩]
      concatenates_S8x8x1_S8x8x1_S8x8x2_d2 (ix3 i j 1) 1 (by simp) S8x8x1 (val_main_v19 (F := Ideal)) rfl rfl 1 rfl (ix3 i j 0)
      (fun b hb => ?_) rfl).trans ?_
  · match b with
    | ⟨0, _⟩ => rfl
    | ⟨1, _⟩ => rfl
    | ⟨2, _⟩ => exact absurd rfl hb
  · rw [val_main_v19_apply]; exact (congrArg _ (eq_ix2 _)).trans (col_index i j)

/-- A word that spells a number below 224, read back and kept inside the image, is that number. -/
theorem word_inside (r : Fin 224) : min ((BitVec.ofNat 32 r.val).toInt.toNat) (224 - 1) = r.val := by
  have hr := r.isLt
  rw [BitVec.toInt_ofNat', Int.bmod_eq_of_le (by omega) (by omega)]
  simp only [Int.toNat_natCast]
  omega

/-- Reading whole columns of channels at pairs of indices, element by element. -/
theorem grid_gather (x : Vec Ideal S4x96x224x224 .f32) (idx : IVec S8x8x2 32) (b : Fin 4) (a : Fin 96) (i j : Fin 8) (r c : Fin 224)
    (hr : idx (ix3 i j 0) = BitVec.ofNat 32 r.val) (hc : idx (ix3 i j 1) = BitVec.ofNat 32 c.val) :
    Host.gather gather_S4x96x224x224_S8x8x2_S4x96x8x8_01_23_n_n_23_2_49611 x idx (ix4 b a i j) = x (ix4 b a r c) := by
  unfold Host.gather
  congr 1
  funext d
  refine Fin.ext ?_
  generalize hG : gather_S4x96x224x224_S8x8x2_S4x96x8x8_01_23_n_n_23_2_49611 = G
  show G.start (ix4 b a i j) idx d + G.batchCoord (ix4 b a i j) d + G.offCoord (ix4 b a i j) d = _
  subst hG
  rw [GatherDims.batchCoord_eq_zero _ _ _ List.not_mem_nil, Nat.add_zero]
  match d with
  | ⟨0, _⟩ =>
    unfold GatherDims.start
    rw [dif_neg (by decide +revert), Nat.zero_add]
    rfl
  | ⟨1, _⟩ =>
    unfold GatherDims.start
    rw [dif_neg (by decide +revert), Nat.zero_add]
    rfl
  | ⟨2, _⟩ =>
    rw [GatherDims.offCoord_eq_zero _ _ _ (by decide +revert), Nat.add_zero]
    unfold GatherDims.start
    rw [dif_pos (by decide +revert)]
    refine Eq.trans (congrArg (fun w : BitVec 32 => min w.toInt.toNat (224 - 1)) (Eq.trans (congrArg idx ?_) hr)) (word_inside r)
    funext e
    match e with
    | ⟨0, _⟩ => rfl
    | ⟨1, _⟩ => rfl
    | ⟨2, _⟩ => rfl
  | ⟨3, _⟩ =>
    rw [GatherDims.offCoord_eq_zero _ _ _ (by decide +revert), Nat.add_zero]
    unfold GatherDims.start
    rw [dif_pos (by decide +revert)]
    refine Eq.trans (congrArg (fun w : BitVec 32 => min w.toInt.toNat (224 - 1)) (Eq.trans (congrArg idx ?_) hc)) (word_inside c)
    funext e
    match e with
    | ⟨0, _⟩ => rfl
    | ⟨1, _⟩ => rfl
    | ⟨2, _⟩ => rfl

/-- The reference's samples: sample `m` is the vector at its sampled row and column. -/
theorem ref_samples (x : Vec Ideal S4x96x224x224 .f32) (b : Fin 4) (a : Fin 96) (m : Fin 64) :
    val_main_v22 (F := Ideal) x (ix3 b a m) = x (ix4 b a (rowOf (hi m)) (rowOf (lo m))) := by
  rw [val_main_v22_apply]
  have hi' : idx_main_v22 (ix3 b a m) = ix4 b a (hi m) (lo m) := by
    have hb := b.isLt; have ha := a.isLt; have hm := m.isLt
    funext d
    match d with
    | ⟨0, _⟩ => exact Fin.ext (show ((b.val * 96 + a.val) * 64 + m.val) / 6144 = b.val by omega)
    | ⟨1, _⟩ => exact Fin.ext (show ((b.val * 96 + a.val) * 64 + m.val) / 64 % 96 = a.val by omega)
    | ⟨2, _⟩ => exact Fin.ext (show ((b.val * 96 + a.val) * 64 + m.val) / 8 % 8 = m.val / 8 by omega)
    | ⟨3, _⟩ => exact Fin.ext (show ((b.val * 96 + a.val) * 64 + m.val) % 8 = m.val % 8 by omega)
  rw [hi']
  exact grid_gather x _ b a (hi m) (lo m) _ _ (pair_row _ _) (pair_col _ _)

end Cert.Proof

end

end
-- ==== Proof.RefScores.lean ====
/- The reference's scores: every vector of the image and every sample divided by its length, and each image vector against each
   sample. -/
module

public import proofs.«01_k».proof.Proof.RefIndices

@[expose] public section

set_option maxRecDepth 16384

noncomputable section

namespace Cert.Proof

open Idealize.ShloMosaic Idealize.ShloMosaic.ValueIdx
open Cert.ReferenceIdeal Cert.ReferenceIdeal.Gen Cert.ReferenceIdeal.Read
open scoped BigOperators

/-- The number `0`, by its bits. -/
theorem bits_zero : Ideal.ofBits .f32 0x00000000#32 = (0 : EReal) := by
  simp [Ideal.ofBits, Ideal.ieee]

/-- The reference's image vector at position `n` of batch entry `b`. -/
def refQuery (x : Vec Ideal S4x96x224x224 .f32) (b : Fin 4) (n : Fin 50176) (a : Fin 96) : EReal := val_main_v23 (F := Ideal) x (ix3 b a n)

/-- The reference's samples of batch entry `b`. -/
def refSample (x : Vec Ideal S4x96x224x224 .f32) (b : Fin 4) (m : Fin 64) (a : Fin 96) : EReal := val_main_v22 (F := Ideal) x (ix3 b a m)

/-- The reference divides every image vector by its length. -/
theorem ref_unit_query (x : Vec Ideal S4x96x224x224 .f32) (b : Fin 4) (a : Fin 96) (n : Fin 50176) :
    val_main_v31 (F := Ideal) x (ix3 b a n) = unit (refQuery x b n) a := by
  have hs : val_main_v25 (F := Ideal) x (ix2 b n) = ∑ c, refQuery x b n c * refQuery x b n c := by
    rw [val_main_v25_apply, val_main_cst_apply]
    show Ideal.ofBits .f32 0x00000000#32 + _ = _
    rw [bits_zero, zero_add]
    refine Finset.sum_congr rfl fun k _ => ?_
    rw [val_main_v24_apply, show idx_main_v25 (ix2 b n) k = ix3 b k n from eq_ix3 _]
    rfl
  have h26 : val_main_v26 (F := Ideal) x (ix3 b 0 n) = ∑ c, refQuery x b n c * refQuery x b n c := by
    rw [val_main_v26_apply, show idx_main_v26 (ix3 b 0 n) = ix2 b n from eq_ix2 _]; exact hs
  have h29 : val_main_v29 (F := Ideal) x (ix3 b 0 n) = len (refQuery x b n) := by
    rw [val_main_v29_apply, val_main_v27_apply, h26, val_main_v28_apply, val_main_cst_7_apply]
    rfl
  rw [val_main_v31_apply, val_main_v30_apply, show idx_main_v30 (ix3 b a n) = ix3 b 0 n from eq_ix3 _, h29]
  rfl

/-- The reference divides every sample by its length. -/
theorem ref_unit_sample (x : Vec Ideal S4x96x224x224 .f32) (b : Fin 4) (a : Fin 96) (m : Fin 64) :
    val_main_v39 (F := Ideal) x (ix3 b a m) = unit (refSample x b m) a := by
  have hs : val_main_v33 (F := Ideal) x (ix2 b m) = ∑ c, refSample x b m c * refSample x b m c := by
    rw [val_main_v33_apply, val_main_cst_8_apply]
    show Ideal.ofBits .f32 0x00000000#32 + _ = _
    rw [bits_zero, zero_add]
    refine Finset.sum_congr rfl fun k _ => ?_
    rw [val_main_v32_apply, show idx_main_v33 (ix2 b m) k = ix3 b k m from eq_ix3 _]
    rfl
  have h34 : val_main_v34 (F := Ideal) x (ix3 b 0 m) = ∑ c, refSample x b m c * refSample x b m c := by
    rw [val_main_v34_apply, show idx_main_v34 (ix3 b 0 m) = ix2 b m from eq_ix2 _]; exact hs
  have h37 : val_main_v37 (F := Ideal) x (ix3 b 0 m) = len (refSample x b m) := by
    rw [val_main_v37_apply, val_main_v35_apply, h34, val_main_v36_apply, val_main_cst_9_apply]
    rfl
  rw [val_main_v39_apply, val_main_v38_apply, show idx_main_v38 (ix3 b a m) = ix3 b 0 m from eq_ix3 _, h37]
  rfl

/-- The reference's score of sample `m` against the image vector at `n`. -/
theorem ref_score (x : Vec Ideal S4x96x224x224 .f32) (b : Fin 4) (n : Fin 50176) (m : Fin 64) :
    val_main_v40 (F := Ideal) x (ix3 b n m) = score (refSample x b) (refQuery x b n) m := by
  rw [val_main_v40_apply]
  refine Finset.sum_congr rfl fun k _ => ?_
  rw [show lidx_main_v40 (ix3 b n m) k = ix3 b k n from eq_ix3 _, show ridx_main_v40 (ix3 b n m) k = ix3 b k m from eq_ix3 _,
    ref_unit_query, ref_unit_sample]
  exact mul_comm _ _

end Cert.Proof

end

end
-- ==== Proof.RefTopK.lean ====
/- The reference's three best samples: the indices it sorts out are the three picks, and the samples it gathers are the picked ones. -/
module

public import proofs.«01_k».proof.Proof.RefScores

@[expose] public section

set_option maxRecDepth 16384

noncomputable section

namespace Cert.Proof

open Idealize.ShloMosaic Idealize.ShloMosaic.ValueIdx
open Cert.ReferenceIdeal Cert.ReferenceIdeal.Gen Cert.ReferenceIdeal.Read
open scoped BigOperators

/-- The second of two arrays sorted together, read at an index whose place in the order is known. -/
theorem sort2_second {α β : Type} (s : Shape) (d : Nat) (hd : d < s.rank) (cmp : α × β → α × β → BitVec 1) (x : s.Idx → α)
    (y : s.Idx → β) (j : s.Idx) (R : Fin (s.size ⟨d, hd⟩) → Fin (s.size ⟨d, hd⟩) → Bool)
    (hR : ∀ k k', (cmp (x (j.along ⟨d, hd⟩ k), y (j.along ⟨d, hd⟩ k)) (x (j.along ⟨d, hd⟩ k'), y (j.along ⟨d, hd⟩ k')) == 1#1) = R k k')
    (p : Fin (s.size ⟨d, hd⟩)) (hp : sortedFrom R (j ⟨d, hd⟩) = p) : (Host.sort2 s d cmp x y).2 j = y (j.along ⟨d, hd⟩ p) := by
  have hR' : (fun k k' => cmp (x (j.along ⟨d, hd⟩ k), y (j.along ⟨d, hd⟩ k)) (x (j.along ⟨d, hd⟩ k'), y (j.along ⟨d, hd⟩ k')) == 1#1) = R :=
    funext fun k => funext fun k' => hR k k'
  subst hR' hp
  unfold Host.sort2
  rw [dif_pos hd]

/-- A comparison's bit is set exactly when the comparison holds. -/
theorem bit_of_lt (p q : EReal) : (BitVec.ofBool (decide (q < p)) == 1#1) = decide (q < p) := by
  by_cases h : q < p
  · simp [h]
  · simp [h]

/-- Sorting rows of 64 numbers above `⊥` and keeping three: the indices kept are the three picks of the row. -/
theorem topK_index (v : S4x50176x64.Idx → Ideal .f32) (b : Fin 4) (n : Fin 50176) (f : Fin 64 → EReal)
    (hv : ∀ m, v (ix3 b n m) = f m) (hf : ∀ m, ⊥ < f m) (k : Fin 3) :
    (Host.topK S4x50176x3 2 (FloatOps.cmpfTotal (F := Ideal) (φ := .f32) .gt) v sliceFits_S4x50176x64_S4x50176x3).2 (ix3 b n k)
      = BitVec.ofNat 32 (pick f k).val := by
  unfold Host.topK
  dsimp only
  refine (extractStridedSlice_apply (fun _ => 0) _ sliceFits_S4x50176x64_S4x50176x3 (ix3 b n k)
    (ix3 b n (k.castLE (show 3 ≤ 64 by decide))) (fun a => match a with
      | ⟨0, _⟩ => (Nat.zero_add _).symm
      | ⟨1, _⟩ => (Nat.zero_add _).symm
      | ⟨2, _⟩ => (Nat.zero_add _).symm)).trans ?_
  have h2 : 2 < S4x50176x64.rank := by decide
  have hk : 3 ≤ 64 := by decide
  have along : ∀ m : Fin 64, Shape.Idx.along (s := S4x50176x64) (ix3 b n (k.castLE hk)) ⟨2, h2⟩ m = ix3 b n m := by
    intro m
    funext a
    match a with
    | ⟨0, _⟩ => rfl
    | ⟨1, _⟩ => rfl
    | ⟨2, _⟩ => rfl
  have hp := sortedFrom_eq_pick f hf (fun u w => decide (f w < f u)) (fun _ _ => rfl) k
  refine (sort2_second S4x50176x64 2 h2 _ v _ (ix3 b n (k.castLE hk)) (fun u w : Fin 64 => decide (f w < f u)) ?_ (pick f k) hp).trans ?_
  · intro u w
    exact (congrArg₂ (fun p q : EReal => BitVec.ofBool (decide (q < p)) == 1#1) ((congrArg v (along u)).trans (hv u))
      ((congrArg v (along w)).trans (hv w))).trans (bit_of_lt _ _)
  · rw [dif_pos h2, along]
    rfl

/-- The reference's three indices. -/
theorem ref_indices (x : Vec Ideal S4x96x224x224 .f32) (b : Fin 4) (n : Fin 50176) (k : Fin 3) :
    val_main_indices (F := Ideal) x (ix3 b n k) = BitVec.ofNat 32 (pick (score (refSample x b) (refQuery x b n)) k).val :=
  topK_index _ b n _ (ref_score x b n) (bot_lt_score _ _) k

/-- A sample's index is not negative, so the reading from the far end for negative indices does not apply. -/
theorem keep_index (p : Fin 64) (z : BitVec 32) : Scalar.select (IntOp.cmpi .slt (BitVec.ofNat 32 p.val) 0#32) z
    (BitVec.ofNat 32 p.val) = BitVec.ofNat 32 p.val := by
  have h : IntOp.cmpi .slt (BitVec.ofNat 32 p.val) 0#32 = 0#1 := by
    revert p; decide
  rw [h]
  rfl

/-- The indices the reference gathers at. -/
theorem ref_gather_index (x : Vec Ideal S4x96x224x224 .f32) (b : Fin 4) (n : Fin 50176) (k : Fin 3) :
    val_main_v46 (F := Ideal) x (ix4 b n k 0) = BitVec.ofNat 32 (pick (score (refSample x b) (refQuery x b n)) k).val := by
  rw [val_main_v46_apply, show idx_main_v46 (ix4 b n k 0) = ix3 b n k from eq_ix3 _, val_main_v45_apply, val_main_v42_apply,
    val_main_v41_apply, val_main_c_10_apply, ref_indices]
  exact keep_index _ _

/-- A word that spells a number below 64, read back and kept inside the samples, is that number. -/
theorem sample_inside (p : Fin 64) : min ((BitVec.ofNat 32 p.val).toInt.toNat) (64 - 1) = p.val := by
  have hp := p.isLt
  rw [BitVec.toInt_ofNat', Int.bmod_eq_of_le (by omega) (by omega)]
  simp only [Int.toNat_natCast]
  omega

/-- Reading samples at an index for every position and pick, element by element. -/
theorem sample_gather (v : S4x96x64.Idx → Ideal .f32) (idx : IVec S4x50176x3x1 32) (b : Fin 4) (a : Fin 96) (n : Fin 50176)
    (k : Fin 3) (p : Fin 64) (hp : idx (ix4 b n k 0) = BitVec.ofNat 32 p.val) :
    Host.gather gather_S4x96x64_S4x50176x3x1_S4x96x50176x3_1_2_0_0_2_3_1961 v idx (ix4 b a n k) = v (ix3 b a p) := by
  unfold Host.gather
  congr 1
  funext d
  refine Fin.ext ?_
  generalize hG : gather_S4x96x64_S4x50176x3x1_S4x96x50176x3_1_2_0_0_2_3_1961 = G
  show G.start (ix4 b a n k) idx d + G.batchCoord (ix4 b a n k) d + G.offCoord (ix4 b a n k) d = _
  subst hG
  match d with
  | ⟨0, _⟩ =>
    rw [GatherDims.start_batching _ _ _ _ (by decide +revert), GatherDims.offCoord_eq_zero _ _ _ (by decide +revert), Nat.zero_add,
      Nat.add_zero]
    unfold GatherDims.batchCoord
    rw [dif_pos (by decide +revert)]
    rfl
  | ⟨1, _⟩ =>
    rw [GatherDims.batchCoord_eq_zero _ _ _ (by decide +revert)]
    unfold GatherDims.start
    rw [dif_neg (by decide +revert), Nat.zero_add]
    rfl
  | ⟨2, _⟩ =>
    rw [GatherDims.offCoord_eq_zero _ _ _ (by decide +revert), GatherDims.batchCoord_eq_zero _ _ _ (by decide +revert), Nat.add_zero]
    unfold GatherDims.start
    rw [dif_pos (by decide +revert)]
    refine Eq.trans (congrArg (fun w : BitVec 32 => min w.toInt.toNat (64 - 1)) (Eq.trans (congrArg idx ?_) hp)) (sample_inside p)
    funext e
    match e with
    | ⟨0, _⟩ => rfl
    | ⟨1, _⟩ => rfl
    | ⟨2, _⟩ => rfl
    | ⟨3, _⟩ => rfl

/-- The reference's gathered samples are the picked ones. -/
theorem ref_picked (x : Vec Ideal S4x96x224x224 .f32) (b : Fin 4) (a : Fin 96) (n : Fin 50176) (k : Fin 3) :
    val_main_v47 (F := Ideal) x (ix4 b a n k) = refSample x b (pick (score (refSample x b) (refQuery x b n)) k) a :=
  sample_gather _ _ b a n k _ (ref_gather_index x b n k)

end Cert.Proof

end

end
-- ==== Proof.RefValue.lean ====
/- The reference's result, entry by entry: the picked samples through their weights, summed over the three picks, plus the bias, not
   below zero. -/
module

public import proofs.«01_k».proof.Proof.RefTopK

@[expose] public section

set_option maxRecDepth 16384

noncomputable section

namespace Cert.Proof

open Idealize.ShloMosaic Idealize.ShloMosaic.ValueIdx
open Cert.ReferenceIdeal Cert.ReferenceIdeal.Gen Cert.ReferenceIdeal.Read
open scoped BigOperators

/-- Every third element of the gathered samples laid out in a row, from the `k`-th on: the `k`-th pick at every position. -/
theorem every_third (x : Vec Ideal S4x96x224x224 .f32) (k : Fin 3) (h : S4x96x150528.SlicesBy ![0, 0, k.val] ![1, 1, 3] S4x96x50176)
    (b : Fin 4) (a : Fin 96) (n : Fin 50176) :
    Host.slice S4x96x50176 ![0, 0, k.val] ![1, 1, 3] (val_main_v48 (F := Ideal) x) h (ix3 b a n)
      = val_main_v47 (F := Ideal) x (ix4 b a n k) := by
  unfold Host.slice
  rw [val_main_v48_apply]
  refine congrArg (val_main_v47 (F := Ideal) x) ?_
  have hb := b.isLt; have ha := a.isLt; have hn := n.isLt; have hk := k.isLt
  funext d
  match d with
  | ⟨0, _⟩ => exact Fin.ext (show (((0 + 1 * b.val) * 96 + (0 + 1 * a.val)) * 150528 + (k.val + 3 * n.val)) / 14450688 = b.val by omega)
  | ⟨1, _⟩ => exact Fin.ext (show (((0 + 1 * b.val) * 96 + (0 + 1 * a.val)) * 150528 + (k.val + 3 * n.val)) / 150528 % 96 = a.val by omega)
  | ⟨2, _⟩ => exact Fin.ext (show (((0 + 1 * b.val) * 96 + (0 + 1 * a.val)) * 150528 + (k.val + 3 * n.val)) / 3 % 50176 = n.val by omega)
  | ⟨3, _⟩ => exact Fin.ext (show (((0 + 1 * b.val) * 96 + (0 + 1 * a.val)) * 150528 + (k.val + 3 * n.val)) % 3 = k.val by omega)

/-- The weights of tap 0 … -/
theorem ref_weight0 (w : Vec Ideal S96x96x3 .f32) (o i : Fin 96) : val_main_v50 (F := Ideal) w (ix2 o i) = w (ix3 o i 0) := by
  have ho := o.isLt; have hi := i.isLt
  rw [val_main_v50_apply, show idx_main_v50 (ix2 o i) = ix3 o i 0 from funext fun d => match d with
    | ⟨0, _⟩ => Fin.ext (show (o.val * 96 + i.val) / 96 = o.val by omega)
    | ⟨1, _⟩ => Fin.ext (show (o.val * 96 + i.val) / 1 % 96 = i.val by omega)
    | ⟨2, _⟩ => rfl, val_main_v49_apply]
  exact congrArg w (eq_ix3 _)

/-- … of tap 1 … -/
theorem ref_weight1 (w : Vec Ideal S96x96x3 .f32) (o i : Fin 96) : val_main_v57 (F := Ideal) w (ix2 o i) = w (ix3 o i 1) := by
  have ho := o.isLt; have hi := i.isLt
  rw [val_main_v57_apply, show idx_main_v57 (ix2 o i) = ix3 o i 0 from funext fun d => match d with
    | ⟨0, _⟩ => Fin.ext (show (o.val * 96 + i.val) / 96 = o.val by omega)
    | ⟨1, _⟩ => Fin.ext (show (o.val * 96 + i.val) / 1 % 96 = i.val by omega)
    | ⟨2, _⟩ => rfl, val_main_v56_apply]
  exact congrArg w (eq_ix3 _)

/-- … and of tap 2. -/
theorem ref_weight2 (w : Vec Ideal S96x96x3 .f32) (o i : Fin 96) : val_main_v63 (F := Ideal) w (ix2 o i) = w (ix3 o i 2) := by
  have ho := o.isLt; have hi := i.isLt
  rw [val_main_v63_apply, show idx_main_v63 (ix2 o i) = ix3 o i 0 from funext fun d => match d with
    | ⟨0, _⟩ => Fin.ext (show (o.val * 96 + i.val) / 96 = o.val by omega)
    | ⟨1, _⟩ => Fin.ext (show (o.val * 96 + i.val) / 1 % 96 = i.val by omega)
    | ⟨2, _⟩ => rfl, val_main_v62_apply]
  exact congrArg w (eq_ix3 _)

/-- One tap's share of an output: the tap's pick through its weights. -/
def share (x : Vec Ideal S4x96x224x224 .f32) (w : Vec Ideal S96x96x3 .f32) (b : Fin 4) (o : Fin 96) (n : Fin 50176) (k : Fin 3) : EReal :=
  ∑ i, w (ix3 o i k) * refSample x b (pick (score (refSample x b) (refQuery x b n)) k) i

/-- Tap 0 of the reference … -/
theorem ref_tap0 (x : Vec Ideal S4x96x224x224 .f32) (w : Vec Ideal S96x96x3 .f32) (b : Fin 4) (o : Fin 96) (n : Fin 50176) :
    val_main_v53 (F := Ideal) x w (ix3 b o n) = share x w b o n 0 := by
  rw [val_main_v53_apply, show idx_main_v53 (ix3 b o n) = ix3 b n o from eq_ix3 _, val_main_v52_apply]
  refine Finset.sum_congr rfl fun i _ => ?_
  rw [show lidx_main_v52 (ix3 b n o) i = ix3 b i n from eq_ix3 _, show ridx_main_v52 (ix3 b n o) i = ix2 o i from eq_ix2 _,
    ref_weight0, ← ref_picked x b i n 0]
  refine (mul_comm _ _).trans (congrArg (w (ix3 o i 0) * ·) ?_)
  exact every_third x 0 _ b i n

/-- … tap 1 … -/
theorem ref_tap1 (x : Vec Ideal S4x96x224x224 .f32) (w : Vec Ideal S96x96x3 .f32) (b : Fin 4) (o : Fin 96) (n : Fin 50176) :
    val_main_v60 (F := Ideal) x w (ix3 b o n) = share x w b o n 1 := by
  rw [val_main_v60_apply, show idx_main_v60 (ix3 b o n) = ix3 b n o from eq_ix3 _, val_main_v59_apply]
  refine Finset.sum_congr rfl fun i _ => ?_
  rw [show lidx_main_v59 (ix3 b n o) i = ix3 b i n from eq_ix3 _, show ridx_main_v59 (ix3 b n o) i = ix2 o i from eq_ix2 _,
    ref_weight1, ← ref_picked x b i n 1]
  refine (mul_comm _ _).trans (congrArg (w (ix3 o i 1) * ·) ?_)
  exact every_third x 1 _ b i n

/-- … and tap 2. -/
theorem ref_tap2 (x : Vec Ideal S4x96x224x224 .f32) (w : Vec Ideal S96x96x3 .f32) (b : Fin 4) (o : Fin 96) (n : Fin 50176) :
    val_main_v66 (F := Ideal) x w (ix3 b o n) = share x w b o n 2 := by
  rw [val_main_v66_apply, show idx_main_v66 (ix3 b o n) = ix3 b n o from eq_ix3 _, val_main_v65_apply]
  refine Finset.sum_congr rfl fun i _ => ?_
  rw [show lidx_main_v65 (ix3 b n o) i = ix3 b i n from eq_ix3 _, show ridx_main_v65 (ix3 b n o) i = ix2 o i from eq_ix2 _,
    ref_weight2, ← ref_picked x b i n 2]
  refine (mul_comm _ _).trans (congrArg (w (ix3 o i 2) * ·) ?_)
  exact every_third x 2 _ b i n

/-- The bias, at every position. -/
theorem ref_bias (v : Vec Ideal S96 .f32) (b : Fin 4) (o : Fin 96) (n : Fin 50176) :
    val_main_v69 (F := Ideal) v (ix3 b o n) = v (ix1 o) := by
  rw [val_main_v69_apply, show idx_main_v69 (ix3 b o n) = ix3 0 o 0 from eq_ix3 _, val_main_v68_apply]
  exact congrArg v (eq_ix1 _)

/-- The reference's output before it is laid out as an image. -/
theorem ref_output (x : Vec Ideal S4x96x224x224 .f32) (w : Vec Ideal S96x96x3 .f32) (v : Vec Ideal S96 .f32) (b : Fin 4) (o : Fin 96)
    (n : Fin 50176) : val_main_v72 (F := Ideal) x w v (ix3 b o n)
      = best3 (fun k i => w (ix3 o i k)) (v (ix1 o)) (refSample x b) (refQuery x b n) := by
  rw [val_main_v72_apply, val_main_v70_apply, val_main_v67_apply, val_main_v61_apply, val_main_v55_apply, val_main_v54_apply,
    val_main_cst_12_apply, val_main_v71_apply, val_main_cst_13_apply, ref_tap0, ref_tap1, ref_tap2, ref_bias]
  show max (Ideal.ofBits .f32 0x00000000#32 + share x w b o n 0 + share x w b o n 1 + share x w b o n 2 + v (ix1 o))
    (Ideal.ofBits .f32 0x00000000#32) = max ((∑ k : Fin 3, share x w b o n k) + v (ix1 o)) 0
  rw [bits_zero, zero_add, Fin.sum_univ_three]

/-- The image position of row `r` and column `c`. -/
def position (r c : Fin 224) : Fin 50176 := ⟨224 * r.val + c.val, by have := r.isLt; have := c.isLt; omega⟩

/-- The reference's image vector at a position is the image's. -/
theorem ref_query (x : Vec Ideal S4x96x224x224 .f32) (b : Fin 4) (r c : Fin 224) (a : Fin 96) :
    refQuery x b (position r c) a = x (ix4 b a r c) := by
  have hb := b.isLt; have ha := a.isLt; have hr := r.isLt; have hc := c.isLt
  unfold refQuery
  rw [val_main_v23_apply]
  refine congrArg x (funext fun d => ?_)
  match d with
  | ⟨0, _⟩ => exact Fin.ext (show ((b.val * 96 + a.val) * 50176 + (224 * r.val + c.val)) / 4816896 = b.val by omega)
  | ⟨1, _⟩ => exact Fin.ext (show ((b.val * 96 + a.val) * 50176 + (224 * r.val + c.val)) / 50176 % 96 = a.val by omega)
  | ⟨2, _⟩ => exact Fin.ext (show ((b.val * 96 + a.val) * 50176 + (224 * r.val + c.val)) / 224 % 224 = r.val by omega)
  | ⟨3, _⟩ => exact Fin.ext (show ((b.val * 96 + a.val) * 50176 + (224 * r.val + c.val)) % 224 = c.val by omega)

/-- Every entry of the reference's result. -/
theorem ref_result (x : Vec Ideal S4x96x224x224 .f32) (w : Vec Ideal S96x96x3 .f32) (v : Vec Ideal S96 .f32) (b : Fin 4) (o : Fin 96)
    (r c : Fin 224) : val_main_v73 (F := Ideal) x w v (ix4 b o r c)
      = answer (fun b a y x' => x (ix4 b a y x')) (fun o i k => w (ix3 o i k)) (fun o => v (ix1 o)) b o r c := by
  have hb := b.isLt; have ho := o.isLt; have hr := r.isLt; have hc := c.isLt
  rw [val_main_v73_apply, show idx_main_v73 (ix4 b o r c) = ix3 b o (position r c) from funext fun d => match d with
    | ⟨0, _⟩ => Fin.ext (show (((b.val * 96 + o.val) * 224 + r.val) * 224 + c.val) / 4816896 = b.val by omega)
    | ⟨1, _⟩ => Fin.ext (show (((b.val * 96 + o.val) * 224 + r.val) * 224 + c.val) / 50176 % 96 = o.val by omega)
    | ⟨2, _⟩ => Fin.ext (show (((b.val * 96 + o.val) * 224 + r.val) * 224 + c.val) % 50176 = 224 * r.val + c.val by omega), ref_output]
  have hs : refSample x b = fun m a => x (ix4 b a (rowOf (hi m)) (rowOf (lo m))) := funext fun m => funext fun a => ref_samples x b a m
  have hq : refQuery x b (position r c) = fun a => x (ix4 b a r c) := funext fun a => ref_query x b r c a
  rw [hs, hq]
  rfl

end Cert.Proof

end

end
-- ==== Proof.Equation.lean ====
/- The value claim: run on the same image, weights and bias, the kernel and the reference return the same array of extended reals. -/
module

public import proofs.«01_k».proof.Defs
public import proofs.«01_k».proof.Proof.HostPrefix
public import proofs.«01_k».proof.Proof.RefValue

@[expose] public section

set_option maxRecDepth 16384

noncomputable section

namespace Cert.Proof

open Idealize.ShloMosaic Idealize.ShloMosaic.ValueIdx Idealize.ShloMosaic.TcCoe
open Idealize.SL Idealize.SL.Sem

/-- The reference's result from arrays equal to the kernel's arguments is the array the kernel returns. -/
theorem reference_returns (m : (ℓ : Loc Cert.KernelIdeal.nD Cert.KernelIdeal.τ Cert.KernelIdeal.sig) → Buf (Elt Ideal) ℓ)
    (c : Dev Cert.KernelIdeal.nD) :
    Cert.ReferenceIdeal.Read.val_main_v73 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) = returned m c := by
  funext i
  obtain ⟨b, o, y, x, rfl⟩ : ∃ b o y x, i = ix4 b o y x := ⟨i 0, i 1, i 2, i 3, eq_ix4 i⟩
  exact ref_result _ _ _ b o y x

/-- The kernel and the reference, run on the same arguments, return the same array. -/
theorem same_results : Cert.algebraic_KernelIdeal_ReferenceIdeal (hKernelIdeal := Cert.KernelIdeal.Gen.facts)
    (hReferenceIdeal := Cert.ReferenceIdeal.Gen.facts) := by
  intro m g m' g' _ hargs
  refine ⟨returned m, kernel_run m g, ?_⟩
  refine (θ_run Cert.ReferenceIdeal.defs _ _).mono (fun r h c => ⟨?_, (h c).2⟩) (Cert.ReferenceIdeal.Value.run (F := Ideal) m' g')
  refine (h c).1.trans ?_
  refine (Cert.ReferenceIdeal.Read.val_main_v73_eq (F := Ideal) (StableHlo.launchContents m' c)).trans ?_
  obtain ⟨h0, h1, h2⟩ := hargs c
  rw [StableHlo.launchContents_devRef, StableHlo.launchContents_devRef, StableHlo.launchContents_devRef]
  refine Eq.trans ?_ (reference_returns m c)
  exact congr (congr (congrArg _ h0) h1) h2

end Cert.Proof

end

end
-- ==== Proof.lean ====
module

public import proofs.«01_k».proof.Defs
public import proofs.«01_k».proof.Proof.Frames
public import proofs.«01_k».proof.Proof.Equation

@[expose] public section

namespace Cert.Proof

/-- Everything the certificate claims. -/
theorem claim : Cert.Claim :=
  ⟨Cert.Kernel.Gen.facts, Cert.KernelIdeal.Gen.facts, Cert.ReferenceIdeal.Gen.facts,
    frame_kernel, frame_kernelIdeal, frame_referenceIdeal, trivial, same_results⟩

end Cert.Proof

end
